-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v158) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_v160) = v4 c
          ∧ r.2.mem ((c.tc : Thread Cert.ReferenceIdeal.nD Cert.ReferenceIdeal.τ).loc Cert.ReferenceIdeal.main_v161) = v5 c
          ∧ r.2.mem ((c.tc : Thread Cert.ReferenceIdeal.nD Cert.ReferenceIdeal.τ).loc Cert.ReferenceIdeal.main_v162) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x256 : Shape := ⟨2, ![16384, 256]⟩
abbrev S256x256 : Shape := ⟨2, ![256, 256]⟩
abbrev S256 : Shape := ⟨1, ![256]⟩
abbrev S256x64 : Shape := ⟨2, ![256, 64]⟩
abbrev S64 : Shape := ⟨1, ![64]⟩
abbrev S4x1024x64 : Shape := ⟨3, ![4, 1024, 64]⟩
abbrev S64x256 : Shape := ⟨2, ![64, 256]⟩
abbrev S4x64x1024 : Shape := ⟨3, ![4, 64, 1024]⟩
abbrev S1x256 : Shape := ⟨2, ![1, 256]⟩
abbrev S1x64 : Shape := ⟨2, ![1, 64]⟩
abbrev S16384x64 : Shape := ⟨2, ![16384, 64]⟩
abbrev S16384x4 : Shape := ⟨2, ![16384, 4]⟩
abbrev S1x1 : Shape := ⟨2, ![1, 1]⟩
abbrev S1024x256 : Shape := ⟨2, ![1024, 256]⟩
abbrev S1024x64 : Shape := ⟨2, ![1024, 64]⟩
abbrev S1024x4 : Shape := ⟨2, ![1024, 4]⟩
abbrev S1024x1024 : Shape := ⟨2, ![1024, 1024]⟩
abbrev S1x64x1024 : Shape := ⟨3, ![1, 64, 1024]⟩
abbrev S64x1024 : Shape := ⟨2, ![64, 1024]⟩
abbrev S1x1024x64 : Shape := ⟨3, ![1, 1024, 64]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x1x1 : Shape := ⟨3, ![1, 1, 1]⟩
abbrev S1x1024x256 : Shape := ⟨3, ![1, 1024, 256]⟩

abbrev nBuf : Space → Nat
  | .hbm => 22
  | .vmem => 24
  | .smem => 0
  | _ => 0

abbrev bufTy : (tb : Table) → Fin (tcTables nBuf tb) → BufTy
  | .hbm, ⟨0, _⟩ => ⟨S16384x256, .f32⟩
  | .hbm, ⟨1, _⟩ => ⟨S256x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S4x1024x64, .f32⟩
  | .hbm, ⟨6, _⟩ => ⟨S64x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S4x64x1024, .f32⟩
  | .hbm, ⟨11, _⟩ => ⟨S1x256, .f32⟩
  | .hbm, ⟨12, _⟩ => ⟨S1x64, .f32⟩
  | .hbm, ⟨13, _⟩ => ⟨S1x256, .f32⟩
  | .hbm, ⟨14, _⟩ => ⟨S1x256, .f32⟩
  | .hbm, ⟨15, _⟩ => ⟨S16384x256, .f32⟩
  | .hbm, ⟨16, _⟩ => ⟨S16384x64, .f32⟩
  | .hbm, ⟨17, _⟩ => ⟨S16384x4, .i32⟩
  | .hbm, ⟨18, _⟩ => ⟨S1x1, .f32⟩
  | .hbm, ⟨19, _⟩ => ⟨S1x1, .f32⟩
  | .hbm, ⟨20, _⟩ => ⟨S1x1, .f32⟩
  | .hbm, ⟨21, _⟩ => ⟨S1x1, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S4x1024x64, .f32⟩
  | .local _ .vmem, ⟨7, _⟩ => ⟨S4x64x1024, .f32⟩
  | .local _ .vmem, ⟨8, _⟩ => ⟨S64x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1024x256, .f32⟩
  | .local _ .vmem, ⟨13, _⟩ => ⟨S1024x256, .f32⟩
  | .local _ .vmem, ⟨14, _⟩ => ⟨S1024x64, .f32⟩
  | .local _ .vmem, ⟨15, _⟩ => ⟨S1024x64, .f32⟩
  | .local _ .vmem, ⟨16, _⟩ => ⟨S1024x4, .i32⟩
  | .local _ .vmem, ⟨17, _⟩ => ⟨S1024x4, .i32⟩
  | .local _ .vmem, ⟨18, _⟩ => ⟨S1x1, .f32⟩
  | .local _ .vmem, ⟨19, _⟩ => ⟨S1x1, .f32⟩
  | .local _ .vmem, ⟨20, _⟩ => ⟨S1x1, .f32⟩
  | .local _ .vmem, ⟨21, _⟩ => ⟨S1x1, .f32⟩
  | .local _ .vmem, ⟨22, _⟩ => ⟨S1x1, .f32⟩
  | .local _ .vmem, ⟨23, _⟩ => ⟨S1x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem15_0 : DmaSem sig := 19
abbrev cc0_sem16_0 : DmaSem sig := 20
abbrev cc0_sem17_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v219 : BitVec 1 := Scalar.cmpi .eq arg0 c15_i32
  let v220 : BitVec 32 := Scalar.extui v219
  let c0_i32_96 : BitVec 32 := 0#32
  let v221 : BitVec 1 := Scalar.cmpi .ne v220 c0_i32_96
  v221

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x4 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S16384x256 : Shape := ⟨2, ![16384, 256]⟩
abbrev S256x256 : Shape := ⟨2, ![256, 256]⟩
abbrev S256 : Shape := ⟨1, ![256]⟩
abbrev S256x64 : Shape := ⟨2, ![256, 64]⟩
abbrev S64 : Shape := ⟨1, ![64]⟩
abbrev S4x1024x64 : Shape := ⟨3, ![4, 1024, 64]⟩
abbrev S64x256 : Shape := ⟨2, ![64, 256]⟩
abbrev S1x256 : Shape := ⟨2, ![1, 256]⟩
abbrev S_ : Shape := ⟨0, ![]⟩
abbrev S16384x64 : Shape := ⟨2, ![16384, 64]⟩
abbrev S1x64 : Shape := ⟨2, ![1, 64]⟩
abbrev S1x1024x64 : Shape := ⟨3, ![1, 1024, 64]⟩
abbrev S1024x64 : Shape := ⟨2, ![1024, 64]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩
abbrev S1 : Shape := ⟨1, ![1]⟩
abbrev S1x1 : Shape := ⟨2, ![1, 1]⟩
abbrev S16384x4 : Shape := ⟨2, ![16384, 4]⟩

abbrev nBuf : Space → Nat
  | .hbm => 315
  | .vmem => 0
  | .smem => 0
  | _ => 0

abbrev hbmTy0_0 (i : Nat) : BufTy := match i % 128 with
  | 0 => ⟨S16384x256, .f32⟩
  | 1 => ⟨S256x256, .f32⟩
  | 2 => ⟨S256, .f32⟩
  | 3 => ⟨S256x64, .f32⟩
  | 4 => ⟨S64, .f32⟩
  | 5 => ⟨S4x1024x64, .f32⟩
  | 6 => ⟨S64x256, .f32⟩
  | 7 => ⟨S256, .f32⟩
  | 8 => ⟨S256x256, .f32⟩
  | 9 => ⟨S256, .f32⟩
  | 10 => ⟨S16384x256, .f32⟩
  | 11 => ⟨S1x256, .f32⟩
  | 12 => ⟨S16384x256, .f32⟩
  | 13 => ⟨S16384x256, .f32⟩
  | 14 => ⟨S_, .f32⟩
  | 15 => ⟨S16384x256, .f32⟩
  | 16 => ⟨S16384x256, .f32⟩
  | 17 => ⟨S16384x64, .f32⟩
  | 18 => ⟨S1x64, .f32⟩
  | 19 => ⟨S16384x64, .f32⟩
  | 20 => ⟨S16384x64, .f32⟩
  | 21 => ⟨S_, .f32⟩
  | 22 => ⟨S16384x64, .f32⟩
  | 23 => ⟨S1x1024x64, .f32⟩
  | 24 => ⟨S1024x64, .f32⟩
  | 25 => ⟨S16384x64, .f32⟩
  | 26 => ⟨S_, .f32⟩
  | 27 => ⟨S16384, .f32⟩
  | 28 => ⟨S16384x1, .f32⟩
  | 29 => ⟨S1024x64, .f32⟩
  | 30 => ⟨S_, .f32⟩
  | 31 => ⟨S1024, .f32⟩
  | 32 => ⟨S1x1024, .f32⟩
  | 33 => ⟨S16384x1024, .f32⟩
  | 34 => ⟨S16384x1024, .f32⟩
  | 35 => ⟨S16384x1024, .f32⟩
  | 36 => ⟨S64x1024, .f32⟩
  | 37 => ⟨S16384x1024, .f32⟩
  | 38 => ⟨S_, .f32⟩
  | 39 => ⟨S16384x1024, .f32⟩
  | 40 => ⟨S16384x1024, .f32⟩
  | 41 => ⟨S16384x1024, .f32⟩
  | 42 => ⟨S16384x1024, .i32⟩
  | 43 => ⟨S_, .f32⟩
  | 44 => ⟨S_, .i32⟩
  | 45 => ⟨S16384, .f32⟩
  | 46 => ⟨S16384, .i32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S1, .i32⟩
  | 56 => ⟨S_, .i32⟩
  | 57 => ⟨S16384x1, .i32⟩
  | 58 => ⟨S16384x1, .i1⟩
  | 59 => ⟨S1x1, .i32⟩
  | 60 => ⟨S16384x1, .i32⟩
  | 61 => ⟨S16384x1, .i1⟩
  | 62 => ⟨S16384x1, .i1⟩
  | 63 => ⟨S_, .i1⟩
  | 64 => ⟨S16384, .i1⟩
  | 65 => ⟨S16384x64, .f32⟩
  | 66 => ⟨S16384x64, .i1⟩
  | 67 => ⟨S_, .f32⟩
  | 68 => ⟨S16384x64, .f32⟩
  | 69 => ⟨S16384x64, .f32⟩
  | 70 => ⟨S16384x64, .f32⟩
  | 71 => ⟨S16384x64, .f32⟩
  | 72 => ⟨S_, .f32⟩
  | 73 => ⟨S_, .f32⟩
  | 74 => ⟨S_, .f32⟩
  | 75 => ⟨S_, .f32⟩
  | 76 => ⟨S16384x64, .f32⟩
  | 77 => ⟨S16384x64, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S16384x64, .f32⟩
  | 87 => ⟨S16384x64, .f32⟩
  | 88 => ⟨S16384x64, .f32⟩
  | 89 => ⟨S16384x64, .f32⟩
  | 90 => ⟨S1x1024x64, .f32⟩
  | 91 => ⟨S1024x64, .f32⟩
  | 92 => ⟨S16384x64, .f32⟩
  | 93 => ⟨S_, .f32⟩
  | 94 => ⟨S16384, .f32⟩
  | 95 => ⟨S16384x1, .f32⟩
  | 96 => ⟨S1024x64, .f32⟩
  | 97 => ⟨S_, .f32⟩
  | 98 => ⟨S1024, .f32⟩
  | 99 => ⟨S1x1024, .f32⟩
  | 100 => ⟨S16384x1024, .f32⟩
  | 101 => ⟨S16384x1024, .f32⟩
  | 102 => ⟨S16384x1024, .f32⟩
  | 103 => ⟨S64x1024, .f32⟩
  | 104 => ⟨S16384x1024, .f32⟩
  | 105 => ⟨S_, .f32⟩
  | 106 => ⟨S16384x1024, .f32⟩
  | 107 => ⟨S16384x1024, .f32⟩
  | 108 => ⟨S16384x1024, .f32⟩
  | 109 => ⟨S16384x1024, .i32⟩
  | 110 => ⟨S_, .f32⟩
  | 111 => ⟨S_, .i32⟩
  | 112 => ⟨S16384, .f32⟩
  | 113 => ⟨S16384, .i32⟩
  | 114 => ⟨S_, .i32⟩
  | 115 => ⟨S16384, .i32⟩
  | 116 => ⟨S16384, .i1⟩
  | 117 => ⟨S_, .i32⟩
  | 118 => ⟨S16384, .i32⟩
  | 119 => ⟨S16384, .i32⟩
  | 120 => ⟨S16384, .i32⟩
  | 121 => ⟨S16384x1, .i32⟩
  | 122 => ⟨S1, .i32⟩
  | 123 => ⟨S_, .i32⟩
  | 124 => ⟨S16384x1, .i32⟩
  | 125 => ⟨S16384x1, .i1⟩
  | 126 => ⟨S1x1, .i32⟩
  | 127 => ⟨S16384x1, .i32⟩
  | _ => ⟨S16384x256, .f32⟩

abbrev hbmTy0_1 (i : Nat) : BufTy := match i % 128 with
  | 0 => ⟨S16384x1, .i1⟩
  | 1 => ⟨S16384x1, .i1⟩
  | 2 => ⟨S_, .i1⟩
  | 3 => ⟨S16384, .i1⟩
  | 4 => ⟨S16384x64, .f32⟩
  | 5 => ⟨S16384x64, .i1⟩
  | 6 => ⟨S_, .f32⟩
  | 7 => ⟨S16384x64, .f32⟩
  | 8 => ⟨S16384x64, .f32⟩
  | 9 => ⟨S16384x64, .f32⟩
  | 10 => ⟨S16384x64, .f32⟩
  | 11 => ⟨S_, .f32⟩
  | 12 => ⟨S_, .f32⟩
  | 13 => ⟨S_, .f32⟩
  | 14 => ⟨S_, .f32⟩
  | 15 => ⟨S16384x64, .f32⟩
  | 16 => ⟨S16384x64, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S16384x64, .f32⟩
  | 24 => ⟨S16384x64, .f32⟩
  | 25 => ⟨S16384x64, .f32⟩
  | 26 => ⟨S16384x64, .f32⟩
  | 27 => ⟨S1x1024x64, .f32⟩
  | 28 => ⟨S1024x64, .f32⟩
  | 29 => ⟨S16384x64, .f32⟩
  | 30 => ⟨S_, .f32⟩
  | 31 => ⟨S16384, .f32⟩
  | 32 => ⟨S16384x1, .f32⟩
  | 33 => ⟨S1024x64, .f32⟩
  | 34 => ⟨S_, .f32⟩
  | 35 => ⟨S1024, .f32⟩
  | 36 => ⟨S1x1024, .f32⟩
  | 37 => ⟨S16384x1024, .f32⟩
  | 38 => ⟨S16384x1024, .f32⟩
  | 39 => ⟨S16384x1024, .f32⟩
  | 40 => ⟨S64x1024, .f32⟩
  | 41 => ⟨S16384x1024, .f32⟩
  | 42 => ⟨S_, .f32⟩
  | 43 => ⟨S16384x1024, .f32⟩
  | 44 => ⟨S16384x1024, .f32⟩
  | 45 => ⟨S16384x1024, .f32⟩
  | 46 => ⟨S16384x1024, .i32⟩
  | 47 => ⟨S_, .f32⟩
  | 48 => ⟨S_, .i32⟩
  | 49 => ⟨S16384, .f32⟩
  | 50 => ⟨S16384, .i32⟩
  | 51 => ⟨S_, .i32⟩
  | 52 => ⟨S16384, .i32⟩
  | 53 => ⟨S16384, .i1⟩
  | 54 => ⟨S_, .i32⟩
  | 55 => ⟨S16384, .i32⟩
  | 56 => ⟨S16384, .i32⟩
  | 57 => ⟨S16384, .i32⟩
  | 58 => ⟨S16384x1, .i32⟩
  | 59 => ⟨S1, .i32⟩
  | 60 => ⟨S_, .i32⟩
  | 61 => ⟨S16384x1, .i32⟩
  | 62 => ⟨S16384x1, .i1⟩
  | 63 => ⟨S1x1, .i32⟩
  | 64 => ⟨S16384x1, .i32⟩
  | 65 => ⟨S16384x1, .i1⟩
  | 66 => ⟨S16384x1, .i1⟩
  | 67 => ⟨S_, .i1⟩
  | 68 => ⟨S16384, .i1⟩
  | 69 => ⟨S16384x64, .f32⟩
  | 70 => ⟨S16384x64, .i1⟩
  | 71 => ⟨S_, .f32⟩
  | 72 => ⟨S16384x64, .f32⟩
  | 73 => ⟨S16384x64, .f32⟩
  | 74 => ⟨S16384x64, .f32⟩
  | 75 => ⟨S16384x64, .f32⟩
  | 76 => ⟨S_, .f32⟩
  | 77 => ⟨S_, .f32⟩
  | 78 => ⟨S_, .f32⟩
  | 79 => ⟨S_, .f32⟩
  | 80 => ⟨S16384x64, .f32⟩
  | 81 => ⟨S16384x64, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S16384x64, .f32⟩
  | 89 => ⟨S16384x64, .f32⟩
  | 90 => ⟨S16384x64, .f32⟩
  | 91 => ⟨S16384x64, .f32⟩
  | 92 => ⟨S1x1024x64, .f32⟩
  | 93 => ⟨S1024x64, .f32⟩
  | 94 => ⟨S16384x64, .f32⟩
  | 95 => ⟨S_, .f32⟩
  | 96 => ⟨S16384, .f32⟩
  | 97 => ⟨S16384x1, .f32⟩
  | 98 => ⟨S1024x64, .f32⟩
  | 99 => ⟨S_, .f32⟩
  | 100 => ⟨S1024, .f32⟩
  | 101 => ⟨S1x1024, .f32⟩
  | 102 => ⟨S16384x1024, .f32⟩
  | 103 => ⟨S16384x1024, .f32⟩
  | 104 => ⟨S16384x1024, .f32⟩
  | 105 => ⟨S64x1024, .f32⟩
  | 106 => ⟨S16384x1024, .f32⟩
  | 107 => ⟨S_, .f32⟩
  | 108 => ⟨S16384x1024, .f32⟩
  | 109 => ⟨S16384x1024, .f32⟩
  | 110 => ⟨S16384x1024, .f32⟩
  | 111 => ⟨S16384x1024, .i32⟩
  | 112 => ⟨S_, .f32⟩
  | 113 => ⟨S_, .i32⟩
  | 114 => ⟨S16384, .f32⟩
  | 115 => ⟨S16384, .i32⟩
  | 116 => ⟨S_, .i32⟩
  | 117 => ⟨S16384, .i32⟩
  | 118 => ⟨S16384, .i1⟩
  | 119 => ⟨S_, .i32⟩
  | 120 => ⟨S16384, .i32⟩
  | 121 => ⟨S16384, .i32⟩
  | 122 => ⟨S16384, .i32⟩
  | 123 => ⟨S16384x1, .i32⟩
  | 124 => ⟨S1, .i32⟩
  | 125 => ⟨S_, .i32⟩
  | 126 => ⟨S16384x1, .i32⟩
  | 127 => ⟨S16384x1, .i1⟩
  | _ => ⟨S16384x256, .f32⟩

abbrev hbmTy0_2 (i : Nat) : BufTy := match i % 128 with
  | 0 => ⟨S1x1, .i32⟩
  | 1 => ⟨S16384x1, .i32⟩
  | 2 => ⟨S16384x1, .i1⟩
  | 3 => ⟨S16384x1, .i1⟩
  | 4 => ⟨S_, .i1⟩
  | 5 => ⟨S16384, .i1⟩
  | 6 => ⟨S16384x64, .f32⟩
  | 7 => ⟨S16384x64, .i1⟩
  | 8 => ⟨S_, .f32⟩
  | 9 => ⟨S16384x64, .f32⟩
  | 10 => ⟨S16384x64, .f32⟩
  | 11 => ⟨S16384x64, .f32⟩
  | 12 => ⟨S16384x64, .f32⟩
  | 13 => ⟨S_, .f32⟩
  | 14 => ⟨S_, .f32⟩
  | 15 => ⟨S_, .f32⟩
  | 16 => ⟨S_, .f32⟩
  | 17 => ⟨S16384x64, .f32⟩
  | 18 => ⟨S16384x64, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S16384x64, .f32⟩
  | 26 => ⟨S16384x64, .f32⟩
  | 27 => ⟨S16384x64, .f32⟩
  | 28 => ⟨S16384x64, .f32⟩
  | 29 => ⟨S16384x256, .f32⟩
  | 30 => ⟨S1x256, .f32⟩
  | 31 => ⟨S16384x256, .f32⟩
  | 32 => ⟨S16384x256, .f32⟩
  | 33 => ⟨S_, .f32⟩
  | 34 => ⟨S16384x256, .f32⟩
  | 35 => ⟨S16384x256, .f32⟩
  | 36 => ⟨S16384x256, .f32⟩
  | 37 => ⟨S1x256, .f32⟩
  | 38 => ⟨S16384x256, .f32⟩
  | 39 => ⟨S16384x256, .f32⟩
  | 40 => ⟨S16384x256, .f32⟩
  | 41 => ⟨S16384x256, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S16384x1, .i32⟩
  | 51 => ⟨S16384x1, .i32⟩
  | 52 => ⟨S16384x1, .i32⟩
  | 53 => ⟨S16384x1, .i32⟩
  | 54 => ⟨S16384x4, .i32⟩
  | 55 => ⟨S1x1, .f32⟩
  | 56 => ⟨S1x1, .f32⟩
  | 57 => ⟨S1x1, .f32⟩
  | 58 => ⟨S1x1, .f32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_v0 : Ref sig .tc := ⟨.hbm, 42, rfl⟩
abbrev main_call1_cst : Ref sig .tc := ⟨.hbm, 43, rfl⟩
abbrev main_call1_c : Ref sig .tc := ⟨.hbm, 44, rfl⟩
abbrev main_call1_v1_0 : Ref sig .tc := ⟨.hbm, 45, rfl⟩
abbrev main_v26 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_3 : Ref sig .tc := ⟨.hbm, 72, rfl⟩
abbrev main_v30 : Ref sig .tc := ⟨.hbm, 73, rfl⟩
abbrev main_cst_4 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst_5 : Ref sig .tc := ⟨.hbm, 78, rfl⟩
abbrev main_v34 : Ref sig .tc := ⟨.hbm, 79, rfl⟩
abbrev main_cst_6 : Ref sig .tc := ⟨.hbm, 80, rfl⟩
abbrev main_v35 : Ref sig .tc := ⟨.hbm, 81, rfl⟩
abbrev main_cst_7 : Ref sig .tc := ⟨.hbm, 82, rfl⟩
abbrev main_v36 : Ref sig .tc := ⟨.hbm, 83, rfl⟩
abbrev main_cst_8 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_9 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_10 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_11 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_call3_v0 : Ref sig .tc := ⟨.hbm, 109, rfl⟩
abbrev main_call3_cst : Ref sig .tc := ⟨.hbm, 110, rfl⟩
abbrev main_call3_c : Ref sig .tc := ⟨.hbm, 111, rfl⟩
abbrev main_call3_v1_0 : Ref sig .tc := ⟨.hbm, 112, rfl⟩
abbrev main_v58 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_call4_cst : Ref sig .tc := ⟨.hbm, 134, rfl⟩
abbrev main_call4_v15 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_cst_12 : Ref sig .tc := ⟨.hbm, 139, rfl⟩
abbrev main_v62 : Ref sig .tc := ⟨.hbm, 140, rfl⟩
abbrev main_cst_13 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_cst_14 : Ref sig .tc := ⟨.hbm, 145, rfl⟩
abbrev main_v66 : Ref sig .tc := ⟨.hbm, 146, rfl⟩
abbrev main_cst_15 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_16 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_17 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_cst_18 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_call5_v0 : Ref sig .tc := ⟨.hbm, 174, rfl⟩
abbrev main_call5_cst : Ref sig .tc := ⟨.hbm, 175, rfl⟩
abbrev main_call5_c : Ref sig .tc := ⟨.hbm, 176, rfl⟩
abbrev main_call5_v1_0 : Ref sig .tc := ⟨.hbm, 177, rfl⟩
abbrev main_v90 : Ref sig .tc := ⟨.hbm, 178, rfl⟩
abbrev main_call6_c : Ref sig .tc := ⟨.hbm, 179, rfl⟩
abbrev main_call6_v0 : Ref sig .tc := ⟨.hbm, 180, rfl⟩
abbrev main_call6_v1 : Ref sig .tc := ⟨.hbm, 181, rfl⟩
abbrev main_call6_c_0 : Ref sig .tc := ⟨.hbm, 182, rfl⟩
abbrev main_call6_v2 : Ref sig .tc := ⟨.hbm, 183, rfl⟩
abbrev main_call6_v3 : Ref sig .tc := ⟨.hbm, 184, rfl⟩
abbrev main_call6_v4 : Ref sig .tc := ⟨.hbm, 185, rfl⟩
abbrev main_call6_v5 : Ref sig .tc := ⟨.hbm, 186, rfl⟩
abbrev main_call6_c_1 : Ref sig .tc := ⟨.hbm, 187, rfl⟩
abbrev main_call6_c_2 : Ref sig .tc := ⟨.hbm, 188, rfl⟩
abbrev main_call6_v6 : Ref sig .tc := ⟨.hbm, 189, rfl⟩
abbrev main_call6_v7 : Ref sig .tc := ⟨.hbm, 190, rfl⟩
abbrev main_call6_v8 : Ref sig .tc := ⟨.hbm, 191, rfl⟩
abbrev main_call6_v9 : Ref sig .tc := ⟨.hbm, 192, rfl⟩
abbrev main_call6_v10 : Ref sig .tc := ⟨.hbm, 193, rfl⟩
abbrev main_call6_v11 : Ref sig .tc := ⟨.hbm, 194, rfl⟩
abbrev main_call6_c_3 : Ref sig .tc := ⟨.hbm, 195, rfl⟩
abbrev main_call6_v12 : Ref sig .tc := ⟨.hbm, 196, rfl⟩
abbrev main_call6_v13 : Ref sig .tc := ⟨.hbm, 197, rfl⟩
abbrev main_call6_v14 : Ref sig .tc := ⟨.hbm, 198, rfl⟩
abbrev main_call6_cst : Ref sig .tc := ⟨.hbm, 199, rfl⟩
abbrev main_call6_v15 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_cst_19 : Ref sig .tc := ⟨.hbm, 204, rfl⟩
abbrev main_v94 : Ref sig .tc := ⟨.hbm, 205, rfl⟩
abbrev main_cst_20 : Ref sig .tc := ⟨.hbm, 206, rfl⟩
abbrev main_v95 : Ref sig .tc := ⟨.hbm, 207, rfl⟩
abbrev main_v96 : Ref sig .tc := ⟨.hbm, 208, rfl⟩
abbrev main_v97 : Ref sig .tc := ⟨.hbm, 209, rfl⟩
abbrev main_cst_21 : Ref sig .tc := ⟨.hbm, 210, rfl⟩
abbrev main_v98 : Ref sig .tc := ⟨.hbm, 211, rfl⟩
abbrev main_cst_22 : Ref sig .tc := ⟨.hbm, 212, rfl⟩
abbrev main_v99 : Ref sig .tc := ⟨.hbm, 213, rfl⟩
abbrev main_v100 : Ref sig .tc := ⟨.hbm, 214, rfl⟩
abbrev main_v101 : Ref sig .tc := ⟨.hbm, 215, rfl⟩
abbrev main_v102 : Ref sig .tc := ⟨.hbm, 216, rfl⟩
abbrev main_v103 : Ref sig .tc := ⟨.hbm, 217, rfl⟩
abbrev main_v104 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_cst_23 : Ref sig .tc := ⟨.hbm, 223, rfl⟩
abbrev main_v109 : Ref sig .tc := ⟨.hbm, 224, rfl⟩
abbrev main_v110 : Ref sig .tc := ⟨.hbm, 225, rfl⟩
abbrev main_v111 : Ref sig .tc := ⟨.hbm, 226, rfl⟩
abbrev main_cst_24 : Ref sig .tc := ⟨.hbm, 227, rfl⟩
abbrev main_v112 : Ref sig .tc := ⟨.hbm, 228, rfl⟩
abbrev main_v113 : Ref sig .tc := ⟨.hbm, 229, rfl⟩
abbrev main_v114 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_v118 : Ref sig .tc := ⟨.hbm, 234, rfl⟩
abbrev main_cst_25 : Ref sig .tc := ⟨.hbm, 235, rfl⟩
abbrev main_v119 : Ref sig .tc := ⟨.hbm, 236, rfl⟩
abbrev main_v120 : Ref sig .tc := ⟨.hbm, 237, rfl⟩
abbrev main_v121 : Ref sig .tc := ⟨.hbm, 238, rfl⟩
abbrev main_call7_v0 : Ref sig .tc := ⟨.hbm, 239, rfl⟩
abbrev main_call7_cst : Ref sig .tc := ⟨.hbm, 240, rfl⟩
abbrev main_call7_c : Ref sig .tc := ⟨.hbm, 241, rfl⟩
abbrev main_call7_v1_0 : Ref sig .tc := ⟨.hbm, 242, rfl⟩
abbrev main_v122 : Ref sig .tc := ⟨.hbm, 243, rfl⟩
abbrev main_call8_c : Ref sig .tc := ⟨.hbm, 244, rfl⟩
abbrev main_call8_v0 : Ref sig .tc := ⟨.hbm, 245, rfl⟩
abbrev main_call8_v1 : Ref sig .tc := ⟨.hbm, 246, rfl⟩
abbrev main_call8_c_0 : Ref sig .tc := ⟨.hbm, 247, rfl⟩
abbrev main_call8_v2 : Ref sig .tc := ⟨.hbm, 248, rfl⟩
abbrev main_call8_v3 : Ref sig .tc := ⟨.hbm, 249, rfl⟩
abbrev main_call8_v4 : Ref sig .tc := ⟨.hbm, 250, rfl⟩
abbrev main_call8_v5 : Ref sig .tc := ⟨.hbm, 251, rfl⟩
abbrev main_call8_c_1 : Ref sig .tc := ⟨.hbm, 252, rfl⟩
abbrev main_call8_c_2 : Ref sig .tc := ⟨.hbm, 253, rfl⟩
abbrev main_call8_v6 : Ref sig .tc := ⟨.hbm, 254, rfl⟩
abbrev main_call8_v7 : Ref sig .tc := ⟨.hbm, 255, rfl⟩
abbrev main_call8_v8 : Ref sig .tc := ⟨.hbm, 256, rfl⟩
abbrev main_call8_v9 : Ref sig .tc := ⟨.hbm, 257, rfl⟩
abbrev main_call8_v10 : Ref sig .tc := ⟨.hbm, 258, rfl⟩
abbrev main_call8_v11 : Ref sig .tc := ⟨.hbm, 259, rfl⟩
abbrev main_call8_c_3 : Ref sig .tc := ⟨.hbm, 260, rfl⟩
abbrev main_call8_v12 : Ref sig .tc := ⟨.hbm, 261, rfl⟩
abbrev main_call8_v13 : Ref sig .tc := ⟨.hbm, 262, rfl⟩
abbrev main_call8_v14 : Ref sig .tc := ⟨.hbm, 263, rfl⟩
abbrev main_call8_cst : Ref sig .tc := ⟨.hbm, 264, rfl⟩
abbrev main_call8_v15 : Ref sig .tc := ⟨.hbm, 265, rfl⟩
abbrev main_v123 : Ref sig .tc := ⟨.hbm, 266, rfl⟩
abbrev main_v124 : Ref sig .tc := ⟨.hbm, 267, rfl⟩
abbrev main_v125 : Ref sig .tc := ⟨.hbm, 268, rfl⟩
abbrev main_cst_26 : Ref sig .tc := ⟨.hbm, 269, rfl⟩
abbrev main_v126 : Ref sig .tc := ⟨.hbm, 270, rfl⟩
abbrev main_cst_27 : Ref sig .tc := ⟨.hbm, 271, rfl⟩
abbrev main_v127 : Ref sig .tc := ⟨.hbm, 272, rfl⟩
abbrev main_v128 : Ref sig .tc := ⟨.hbm, 273, rfl⟩
abbrev main_v129 : Ref sig .tc := ⟨.hbm, 274, rfl⟩
abbrev main_cst_28 : Ref sig .tc := ⟨.hbm, 275, rfl⟩
abbrev main_v130 : Ref sig .tc := ⟨.hbm, 276, rfl⟩
abbrev main_cst_29 : Ref sig .tc := ⟨.hbm, 277, rfl⟩
abbrev main_v131 : Ref sig .tc := ⟨.hbm, 278, rfl⟩
abbrev main_v132 : Ref sig .tc := ⟨.hbm, 279, rfl⟩
abbrev main_v133 : Ref sig .tc := ⟨.hbm, 280, rfl⟩
abbrev main_v134 : Ref sig .tc := ⟨.hbm, 281, rfl⟩
abbrev main_v135 : Ref sig .tc := ⟨.hbm, 282, rfl⟩
abbrev main_v136 : Ref sig .tc := ⟨.hbm, 283, rfl⟩
abbrev main_v137 : Ref sig .tc := ⟨.hbm, 284, rfl⟩
abbrev main_v138 : Ref sig .tc := ⟨.hbm, 285, rfl⟩
abbrev main_v139 : Ref sig .tc := ⟨.hbm, 286, rfl⟩
abbrev main_v140 : Ref sig .tc := ⟨.hbm, 287, rfl⟩
abbrev main_v141 : Ref sig .tc := ⟨.hbm, 288, rfl⟩
abbrev main_call9_cst : Ref sig .tc := ⟨.hbm, 289, rfl⟩
abbrev main_call9_v0 : Ref sig .tc := ⟨.hbm, 290, rfl⟩
abbrev main_v142 : Ref sig .tc := ⟨.hbm, 291, rfl⟩
abbrev main_v143 : Ref sig .tc := ⟨.hbm, 292, rfl⟩
abbrev main_v144 : Ref sig .tc := ⟨.hbm, 293, rfl⟩
abbrev main_v145 : Ref sig .tc := ⟨.hbm, 294, rfl⟩
abbrev main_v146 : Ref sig .tc := ⟨.hbm, 295, rfl⟩
abbrev main_v147 : Ref sig .tc := ⟨.hbm, 296, rfl⟩
abbrev main_v148 : Ref sig .tc := ⟨.hbm, 297, rfl⟩
abbrev main_cst_30 : Ref sig .tc := ⟨.hbm, 298, rfl⟩
abbrev main_v149 : Ref sig .tc := ⟨.hbm, 299, rfl⟩
abbrev main_cst_31 : Ref sig .tc := ⟨.hbm, 300, rfl⟩
abbrev main_v150 : Ref sig .tc := ⟨.hbm, 301, rfl⟩
abbrev main_cst_32 : Ref sig .tc := ⟨.hbm, 302, rfl⟩
abbrev main_v151 : Ref sig .tc := ⟨.hbm, 303, rfl⟩
abbrev main_v152 : Ref sig .tc := ⟨.hbm, 304, rfl⟩
abbrev main_v153 : Ref sig .tc := ⟨.hbm, 305, rfl⟩
abbrev main_v154 : Ref sig .tc := ⟨.hbm, 306, rfl⟩
abbrev main_v155 : Ref sig .tc := ⟨.hbm, 307, rfl⟩
abbrev main_v156 : Ref sig .tc := ⟨.hbm, 308, rfl⟩
abbrev main_v157 : Ref sig .tc := ⟨.hbm, 309, rfl⟩
abbrev main_v158 : Ref sig .tc := ⟨.hbm, 310, rfl⟩
abbrev main_v159 : Ref sig .tc := ⟨.hbm, 311, rfl⟩
abbrev main_v160 : Ref sig .tc := ⟨.hbm, 312, rfl⟩
abbrev main_v161 : Ref sig .tc := ⟨.hbm, 313, rfl⟩
abbrev main_v162 : Ref sig .tc := ⟨.hbm, 314, rfl⟩

abbrev nD : Nat := 1
abbrev τ : Topo := Topo.v7x

variable {F : FTy → Type} [FloatOps F]
-- ==== Proof.Block.lean ====
/- What the kernel's body computes on one block of 1024 rows, as functions of whole blocks: the encoder, one
   quantization level (used four times), the decoder and the two sums of squares. -/
module

public import proofs.«01_k».proof.Proof.Gen.KernelIdeal.Skeleton
public import Idealize.ShloMosaic.Lib.Pipeline.ValueKit

@[expose] public section

noncomputable section

namespace Cert.KernelIdeal.Block

open Cert.KernelIdeal Cert.KernelIdeal.Gen Idealize.ShloMosaic

variable {F : FTy → Type} [FloatOps F]

/-- The lane numbers of a row of distances. -/
abbrev lanes : IVec S1024x1024 32 := iota .tc S1024x1024 32 [1] iota_S1024x1024_d1_w32

/-- A bias row added to every row of 256. -/
def wide (y : FVec F S1024x256 .f32) (b : Vec F S1x256 .f32) : FVec F S1024x256 .f32 :=
  addf y (broadcastTo S1024x256 (shapeCast S1x256 b shapeCasts_S1x256_S1x256) broadcasts_S1x256_S1024x256)

/-- The positive part of rows of 256. -/
def pos (y : FVec F S1024x256 .f32) : FVec F S1024x256 .f32 :=
  maximumf y (broadcast S1024x256 (Scalar.ofBits .f32 0x00000000#32))

/-- The encoder. -/
def enc (x : Vec F S1024x256 .f32) (w1 : Vec F S256x256 .f32) (b1 : Vec F S1x256 .f32) (w2 : Vec F S256x64 .f32)
    (b2 : Vec F S1x64 .f32) : FVec F S1024x64 .f32 :=
  addf (matmul dot_S1024x256_S256x64_S1024x64_1_0_0_1_n_n none
      (pos (wide (matmul dot_S1024x256_S256x256_S1024x256_1_0_0_1_n_n none x w1 (constant S1024x256 .f32 0x00000000#32)) b1))
      w2 (constant S1024x64 .f32 0x00000000#32))
    (broadcastTo S1024x64 (shapeCast S1x64 b2 shapeCasts_S1x64_S1x64) broadcasts_S1x64_S1024x64)

/-- The decoder. -/
def dec (z : FVec F S1024x64 .f32) (w1 : Vec F S64x256 .f32) (b1 : Vec F S1x256 .f32) (w2 : Vec F S256x256 .f32)
    (b2 : Vec F S1x256 .f32) : FVec F S1024x256 .f32 :=
  wide (matmul dot_S1024x256_S256x256_S1024x256_1_0_0_1_n_n none
      (pos (wide (matmul dot_S1024x64_S64x256_S1024x256_1_0_0_1_n_n none z w1 (constant S1024x256 .f32 0x00000000#32)) b1))
      w2 (constant S1024x256 .f32 0x00000000#32)) b2

/-- The squared distances of a block's rows to the entries of a codebook, given transposed. -/
def dist (r : FVec F S1024x64 .f32) (ct : Vec F S1x64x1024 .f32) : FVec F S1024x1024 .f32 :=
  subf (addf
      (broadcastTo S1024x1024 (shapeCast S1024x1 (multiReduction .add [1] S1024 (mulf r r) 0x00000000#32
        reduces_S1024x64_S1024 (.inl rfl) rfl) shapeCasts_S1024_S1024x1) broadcasts_S1024x1_S1024x1024)
      (broadcastTo S1024x1024 (shapeCast S1x1024 (multiReduction .add [0] S1024
        (mulf (shapeCast S64x1024 ct shapeCasts_S1x64x1024_S64x1024) (shapeCast S64x1024 ct shapeCasts_S1x64x1024_S64x1024))
        0x00000000#32 reduces_S64x1024_S1024 (.inl rfl) rfl) shapeCasts_S1024_S1x1024) broadcasts_S1x1024_S1024x1024))
    (mulf (broadcast S1024x1024 (Scalar.ofBits .f32 0x40000000#32))
      (matmul dot_S1024x64_S64x1024_S1024x1024_1_0_0_1_n_n none r (shapeCast S64x1024 ct shapeCasts_S1x64x1024_S64x1024)
        (constant S1024x1024 .f32 0x00000000#32)))

/-- The lanes at which a row of distances attains its minimum. -/
def least (d : FVec F S1024x1024 .f32) : IVec S1024x1024 1 :=
  cmpf .oeq d (broadcastTo S1024x1024 (shapeCast S1024x1 (multiReduction .minimumf [1] S1024 d 0x7F800000#32
    reduces_S1024x1024_S1024 (.inl rfl) rfl) shapeCasts_S1024_S1024x1) broadcasts_S1024x1_S1024x1024)

/-- The first of the marked lanes. -/
def first (k : IVec S1024x1024 1) : IVec S1024x1 32 :=
  shapeCast S1024x1 (multiReductionI .minsi [1] S1024 (select k lanes (broadcast S1024x1024 1024#32)) 2147483647#32
    reduces_S1024x1024_S1024 rfl) shapeCasts_S1024_S1024x1

/-- The rows of a codebook at given indices: a product with the rows that hold a one at the index. -/
def rowsAt (i : IVec S1024x1 32) (cb : Vec F S1x1024x64 .f32) : FVec F S1024x64 .f32 :=
  matmul dot_S1024x1024_S1024x64_S1024x64_1_0_0_1_n_n (some .fp32)
    (sitofp .f32 (extui 32 (cmpi .eq lanes (broadcastTo S1024x1024 i broadcasts_S1024x1_S1024x1024)) natLt_1_32))
    (shapeCast S1024x64 cb shapeCasts_S1x1024x64_S1024x64) (constant S1024x64 .f32 0x00000000#32)

/-- The codes of a level's residual. -/
def code (r : FVec F S1024x64 .f32) (ct : Vec F S1x64x1024 .f32) : IVec S1024x1 32 := first (least (dist r ct))

/-- What a level's nearest entries miss of the residual. -/
def miss (r : FVec F S1024x64 .f32) (cb : Vec F S1x1024x64 .f32) (ct : Vec F S1x64x1024 .f32) : FVec F S1024x64 .f32 :=
  subf (rowsAt (code r ct) cb) r

/-- A level's straight-through value. -/
def through (r : FVec F S1024x64 .f32) (cb : Vec F S1x1024x64 .f32) (ct : Vec F S1x64x1024 .f32) : FVec F S1024x64 .f32 :=
  addf r (miss r cb ct)

/-- The residual a level leaves. -/
def next (r : FVec F S1024x64 .f32) (cb : Vec F S1x1024x64 .f32) (ct : Vec F S1x64x1024 .f32) : FVec F S1024x64 .f32 :=
  subf r (through r cb ct)

/-- The sum of the squares of a block of rows of 64. -/
def sum64 (d : FVec F S1024x64 .f32) : FVec F S1x1 .f32 :=
  broadcast S1x1 (extractAt ![0, 0, 0] (shapeCast S1x1x1 (multiReduction .add [1, 2] S1
    (shapeCast S1x1024x64 (mulf d d) shapeCasts_S1024x64_S1x1024x64) 0x00000000#32 reduces_S1x1024x64_S1 (.inl rfl) rfl)
    shapeCasts_S1_S1x1x1) inpos_S1x1x1_p0_0_0)

/-- The sum of the squares of a block of rows of 256. -/
def sum256 (d : FVec F S1024x256 .f32) : FVec F S1x1 .f32 :=
  broadcast S1x1 (extractAt ![0, 0, 0] (shapeCast S1x1x1 (multiReduction .add [1, 2] S1
    (shapeCast S1x1024x256 (mulf d d) shapeCasts_S1024x256_S1x1024x256) 0x00000000#32 reduces_S1x1024x256_S1 (.inl rfl) rfl)
    shapeCasts_S1_S1x1x1) inpos_S1x1x1_p0_0_0)

/-- The four levels' codebooks, a slice of the block of all four. -/
def cb0 (c : Vec F S4x1024x64 .f32) : Vec F S1x1024x64 .f32 :=
  View.ld c (Rect.unit (s := S4x1024x64) ![0, 0, 0] S1x1024x64.size inb_S4x1024x64_S1x1024x64_0_0_0)
@[inherit_doc cb0] def cb1 (c : Vec F S4x1024x64 .f32) : Vec F S1x1024x64 .f32 :=
  View.ld c (Rect.unit (s := S4x1024x64) ![1, 0, 0] S1x1024x64.size inb_S4x1024x64_S1x1024x64_1_0_0)
@[inherit_doc cb0] def cb2 (c : Vec F S4x1024x64 .f32) : Vec F S1x1024x64 .f32 :=
  View.ld c (Rect.unit (s := S4x1024x64) ![2, 0, 0] S1x1024x64.size inb_S4x1024x64_S1x1024x64_2_0_0)
@[inherit_doc cb0] def cb3 (c : Vec F S4x1024x64 .f32) : Vec F S1x1024x64 .f32 :=
  View.ld c (Rect.unit (s := S4x1024x64) ![3, 0, 0] S1x1024x64.size inb_S4x1024x64_S1x1024x64_3_0_0)

/-- The four levels' transposed codebooks, a slice of the block of all four. -/
def ct0 (c : Vec F S4x64x1024 .f32) : Vec F S1x64x1024 .f32 :=
  View.ld c (Rect.unit (s := S4x64x1024) ![0, 0, 0] S1x64x1024.size inb_S4x64x1024_S1x64x1024_0_0_0)
@[inherit_doc ct0] def ct1 (c : Vec F S4x64x1024 .f32) : Vec F S1x64x1024 .f32 :=
  View.ld c (Rect.unit (s := S4x64x1024) ![1, 0, 0] S1x64x1024.size inb_S4x64x1024_S1x64x1024_1_0_0)
@[inherit_doc ct0] def ct2 (c : Vec F S4x64x1024 .f32) : Vec F S1x64x1024 .f32 :=
  View.ld c (Rect.unit (s := S4x64x1024) ![2, 0, 0] S1x64x1024.size inb_S4x64x1024_S1x64x1024_2_0_0)
@[inherit_doc ct0] def ct3 (c : Vec F S4x64x1024 .f32) : Vec F S1x64x1024 .f32 :=
  View.ld c (Rect.unit (s := S4x64x1024) ![3, 0, 0] S1x64x1024.size inb_S4x64x1024_S1x64x1024_3_0_0)

section
variable (z : FVec F S1024x64 .f32) (cb : Vec F S4x1024x64 .f32) (ct : Vec F S4x64x1024 .f32)

/-- The residuals that reach the second, third and fourth level. -/
def res1 : FVec F S1024x64 .f32 := next z (cb0 cb) (ct0 ct)
@[inherit_doc res1] def res2 : FVec F S1024x64 .f32 := next (res1 z cb ct) (cb1 cb) (ct1 ct)
@[inherit_doc res1] def res3 : FVec F S1024x64 .f32 := next (res2 z cb ct) (cb2 cb) (ct2 ct)

/-- The quantized rows: the straight-through values of the four levels added up. -/
def quant : FVec F S1024x64 .f32 :=
  addf (addf (addf (addf (broadcast S1024x64 (Scalar.ofBits .f32 0x00000000#32)) (through z (cb0 cb) (ct0 ct)))
    (through (res1 z cb ct) (cb1 cb) (ct1 ct))) (through (res2 z cb ct) (cb2 cb) (ct2 ct)))
    (through (res3 z cb ct) (cb3 cb) (ct3 ct))

/-- The four levels' codes side by side. -/
def codes : IVec S1024x4 32 :=
  concatenate S1024x4 1 [⟨S1024x1, code z (ct0 ct)⟩, ⟨S1024x1, code (res1 z cb ct) (ct1 ct)⟩,
    ⟨S1024x1, code (res2 z cb ct) (ct2 ct)⟩, ⟨S1024x1, code (res3 z cb ct) (ct3 ct)⟩]
    concatenates_S1024x1_S1024x1_S1024x1_S1024x1_S1024x4_d1

/-- What the four levels miss, squared and added up. -/
def missed : FVec F S1x1 .f32 :=
  addf (addf (addf (addf (broadcast S1x1 (Scalar.ofBits .f32 0x00000000#32)) (sum64 (miss z (cb0 cb) (ct0 ct))))
    (sum64 (miss (res1 z cb ct) (cb1 cb) (ct1 ct)))) (sum64 (miss (res2 z cb ct) (cb2 cb) (ct2 ct))))
    (sum64 (miss (res3 z cb ct) (cb3 cb) (ct3 ct)))
end

end Cert.KernelIdeal.Block

end
-- ==== Proof.BlockVal.lean ====
/- The kernel's grid read as functions of the input blocks: what every point leaves in the three blocks it writes back
   at once, and what the points add to the two carried sums from which the last point forms the four scalars. -/
module

public import proofs.«01_k».proof.Proof.Block
public import proofs.«01_k».proof.Proof.Gen.KernelIdeal.Value
public import Idealize.ShloMosaic.Lib.Pipeline.ReadBack

@[expose] public section

noncomputable section

namespace Cert.KernelIdeal.Block

open Cert.KernelIdeal Cert.KernelIdeal.Gen Cert.KernelIdeal.Value Idealize.ShloMosaic

variable {F : FTy → Type} [FloatOps F] (m : (ℓ : Loc nD τ sig) → Buf (Elt F) ℓ) (c : Dev nD) (t : Fin cfg0.N)

/-- The encoded rows of a point's block. -/
def zAt : FVec F S1024x64 .f32 := enc (iblk m c 0 t) (iblk m c 1 t) (iblk m c 2 t) (iblk m c 3 t) (iblk m c 4 t)

/-- The quantized rows of a point's block. -/
def quantAt : FVec F S1024x64 .f32 := quant (zAt m c t) (iblk m c 5 t) (iblk m c 6 t)

/-- The reconstruction of a point's block. -/
def recAt : FVec F S1024x256 .f32 :=
  dec (quantAt m c t) (iblk m c 7 t) (iblk m c 8 t) (iblk m c 9 t) (iblk m c 10 t)

/-- What a point adds to the first carried sum. -/
def missAt : FVec F S1x1 .f32 := missed (zAt m c t) (iblk m c 5 t) (iblk m c 6 t)

/-- What a point adds to the second carried sum. -/
def errAt : FVec F S1x1 .f32 := sum256 (subf (recAt m c t) (iblk m c 0 t))

/-- The codes of a point's block. -/
def codesAt : IVec S1024x4 32 := codes (zAt m c t) (iblk m c 5 t) (iblk m c 6 t)

set_option maxRecDepth 16384

set_option maxHeartbeats 1000000 in
/-- Every point leaves its reconstruction, its quantized rows and its codes. -/
theorem outs_blocks : (outsAt0 m c t.val t.isLt).1 = recAt m c t ∧ (outsAt0 m c t.val t.isLt).2.1 = quantAt m c t
    ∧ (outsAt0 m c t.val t.isLt).2.2.1 = codesAt m c t := by
  by_cases h0 : t.val % 16 = 0
  · have h1 : ¬t.val % 16 = 15 := by omega
    rw [outsAt0_A m c t h0 h1]
    refine ⟨?_, ?_, ?_⟩ <;> frame_out <;> rfl
  · by_cases h1 : t.val % 16 = 15
    · rw [outsAt0_C m c t h0 h1]
      refine ⟨?_, ?_, ?_⟩ <;> frame_out <;> rfl
    · rw [outsAt0_B m c t h0 h1]
      refine ⟨?_, ?_, ?_⟩ <;> frame_out <;> rfl

/-- The zero a carried sum starts from. -/
def zero : FVec F S1x1 .f32 := broadcast S1x1 (Scalar.ofBits .f32 0x00000000#32)

/-- The first point starts both sums at its own terms. -/
theorem sums_start (h0 : t.val % 16 = 0) :
    (outsAt0 m c t.val t.isLt).2.2.2.2.2.2.2.1 = addf zero (missAt m c t)
    ∧ (outsAt0 m c t.val t.isLt).2.2.2.2.2.2.2.2 = addf zero (errAt m c t) := by
  have h1 : ¬t.val % 16 = 15 := by omega
  rw [outsAt0_A m c t h0 h1]
  refine ⟨?_, ?_⟩
  · frame_out
    unfold k0_pay1 k0_pay7
    simp only [shapeCast_self]
    rfl
  · frame_out
    unfold k0_pay2 k0_pay8
    simp only [shapeCast_self]
    rfl

/-- A later point adds its terms to what the point before left. -/
theorem sums_step (h0 : ¬t.val % 16 = 0) :
    (outsAt0 m c t.val t.isLt).2.2.2.2.2.2.2.1
      = addf (outsAt0 m c (t.val - 1) (Nat.lt_of_le_of_lt (Nat.sub_le _ _) t.isLt)).2.2.2.2.2.2.2.1 (missAt m c t)
    ∧ (outsAt0 m c t.val t.isLt).2.2.2.2.2.2.2.2
      = addf (outsAt0 m c (t.val - 1) (Nat.lt_of_le_of_lt (Nat.sub_le _ _) t.isLt)).2.2.2.2.2.2.2.2 (errAt m c t) := by
  by_cases h1 : t.val % 16 = 15
  · rw [outsAt0_C m c t h0 h1]
    refine ⟨?_, ?_⟩
    · frame_out
      simp only [read_unread_whole]
      unfold k0_pay1
      simp only [shapeCast_self]
      rfl
    · frame_out
      simp only [read_unread_whole]
      unfold k0_pay2
      simp only [shapeCast_self]
      rfl
  · rw [outsAt0_B m c t h0 h1]
    refine ⟨?_, ?_⟩
    · frame_out
      simp only [read_unread_whole]
      unfold k0_pay1
      simp only [shapeCast_self]
      rfl
    · frame_out
      simp only [read_unread_whole]
      unfold k0_pay2
      simp only [shapeCast_self]
      rfl

/-- A sum times a constant. -/
def scaled (s : FVec F S1x1 .f32) (b : BitVec 32) : FVec F S1x1 .f32 := mulf s (broadcast S1x1 (Scalar.ofBits .f32 b))

/-- The commitment loss from the codebook loss. -/
def commit (s : FVec F S1x1 .f32) : FVec F S1x1 .f32 := mulf (broadcast S1x1 (Scalar.ofBits .f32 0x3E800000#32)) s

/-- The last point forms the four scalars from the sums it leaves. -/
theorem outs_last (h1 : t.val % 16 = 15) :
    (outsAt0 m c t.val t.isLt).2.2.2.1 = scaled (outsAt0 m c t.val t.isLt).2.2.2.2.2.2.2.1 0x35800000#32
    ∧ (outsAt0 m c t.val t.isLt).2.2.2.2.1 = commit (scaled (outsAt0 m c t.val t.isLt).2.2.2.2.2.2.2.1 0x35800000#32)
    ∧ (outsAt0 m c t.val t.isLt).2.2.2.2.2.1 = scaled (outsAt0 m c t.val t.isLt).2.2.2.2.2.2.2.2 0x34800000#32
    ∧ (outsAt0 m c t.val t.isLt).2.2.2.2.2.2.1
      = addf (addf (scaled (outsAt0 m c t.val t.isLt).2.2.2.2.2.2.2.1 0x35800000#32)
          (commit (scaled (outsAt0 m c t.val t.isLt).2.2.2.2.2.2.2.1 0x35800000#32)))
        (scaled (outsAt0 m c t.val t.isLt).2.2.2.2.2.2.2.2 0x34800000#32) := by
  have h0 : ¬t.val % 16 = 0 := by omega
  rw [(sums_step m c t h0).1, (sums_step m c t h0).2, outsAt0_C m c t h0 h1]
  refine ⟨?_, ?_, ?_, ?_⟩
  · frame_out
    simp only [read_unread_whole]
    unfold k0_pay1
    simp only [shapeCast_self]
    rfl
  · frame_out
    simp only [read_unread_whole]
    unfold k0_pay1
    simp only [shapeCast_self]
    rfl
  · frame_out
    simp only [read_unread_whole]
    unfold k0_pay2
    simp only [shapeCast_self]
    rfl
  · frame_out
    simp only [read_unread_whole]
    unfold k0_pay1 k0_pay2
    simp only [shapeCast_self]
    rfl

/-- The point whose block holds a row. -/
def ptOf (i : Fin 16384) : Fin cfg0.N := ⟨i.val / 1024, lt_of_lt_of_eq (by omega) N_0.symm⟩

/-- A row's place in its block. -/
def locOf (i : Fin 16384) : Fin 1024 := ⟨i.val % 1024, Nat.mod_lt _ (by decide)⟩

end Cert.KernelIdeal.Block

end
-- ==== Proof.Rows.lean ====
/- One row of the problem over the extended reals: the encoder, the four quantization levels and the decoder as plain
   functions of a row, and the two ways of finding the first nearest entry of a codebook — a left fold over (value,
   index) pairs, and the least of the indices that attain the minimum. -/
module

public import Idealize.ShloMosaic.Lib.Pointwise
public import Idealize.ShloMosaic.Lib.Pipeline.ValueKit

@[expose] public section

noncomputable section

namespace Cert.Rows

open Idealize.ShloMosaic

/-- A row times a matrix, plus a bias. -/
def layer {K N : ℕ} (x : Fin K → EReal) (w : Fin K → Fin N → EReal) (b : Fin N → EReal) : Fin N → EReal :=
  fun j => ∑ k, x k * w k j + b j

/-- Two layers with the positive part between them: the encoder and the decoder. -/
def layers {K M N : ℕ} (x : Fin K → EReal) (w1 : Fin K → Fin M → EReal) (b1 : Fin M → EReal) (w2 : Fin M → Fin N → EReal)
    (b2 : Fin N → EReal) : Fin N → EReal :=
  layer (fun k => max (layer x w1 b1 k) 0) w2 b2

/-- The lanes at which a row attains its minimum. -/
def least (d : Fin 1024 → EReal) : Finset (Fin 1024) := Finset.univ.filter fun l => ∀ k, d l ≤ d k

theorem least_nonempty (d : Fin 1024 → EReal) : (least d).Nonempty := by
  obtain ⟨l, hl⟩ := Finite.exists_min d
  exact ⟨l, by simp only [least, Finset.mem_filter, Finset.mem_univ, true_and]; exact hl⟩

/-- The first lane at which a row attains its minimum. -/
def pick (d : Fin 1024 → EReal) : Fin 1024 := (least d).min' (least_nonempty d)

theorem pick_le (d : Fin 1024 → EReal) (k : Fin 1024) : d (pick d) ≤ d k := by
  have h : pick d ∈ least d := Finset.min'_mem _ _
  simp only [least, Finset.mem_filter, Finset.mem_univ, true_and] at h
  exact h k

theorem pick_first (d : Fin 1024 → EReal) (l : Fin 1024) (h : ∀ k, d l ≤ d k) : pick d ≤ l :=
  Finset.min'_le _ _ (by simp only [least, Finset.mem_filter, Finset.mem_univ, true_and]; exact h)

theorem toInt_lane (l : Fin 1024) : (BitVec.ofNat 32 l.val).toInt = l.val := by
  have := l.isLt
  rw [BitVec.toInt_eq_toNat_of_lt (by rw [BitVec.toNat_ofNat]; omega), BitVec.toNat_ofNat, Nat.mod_eq_of_lt (by omega)]

/-! ## The least of the marked lanes -/

theorem fold_min_eq (d : Fin 1024 → EReal) : Finset.univ.fold min (⊤ : EReal) d = d (pick d) := by
  apply le_antisymm
  · exact (Finset.fold_min_le _).mpr (Or.inr ⟨pick d, Finset.mem_univ _, le_rfl⟩)
  · exact Finset.le_fold_min _ |>.mpr ⟨le_top, fun k _ => pick_le d k⟩

theorem minsi_toInt (a b : BitVec 32) : (IntOp.minsi a b).toInt = min a.toInt b.toInt := by
  unfold IntOp.minsi
  by_cases h : a.slt b = true
  · rw [if_pos h]; rw [BitVec.slt_iff_toInt_lt] at h; omega
  · rw [if_neg h]; rw [BitVec.slt_iff_toInt_lt] at h; omega

/-- The least of the lane numbers of the lanes that attain the minimum, the other lanes at 1024, is the first such lane. -/
theorem fold_minsi_eq (d : Fin 1024 → EReal) (f : Fin 1024 → BitVec 32)
    (hf : ∀ l, f l = if d l = d (pick d) then BitVec.ofNat 32 l.val else 1024#32) :
    Finset.univ.fold IntOp.minsi 2147483647#32 f = BitVec.ofNat 32 (pick d).val := by
  have hm : ∀ s : Finset (Fin 1024), (s.fold IntOp.minsi 2147483647#32 f).toInt
      = s.fold min (2147483647 : ℤ) fun l => (f l).toInt := fun s => by
    induction s using Finset.induction_on with
    | empty => simp only [Finset.fold_empty]; decide
    | insert a s ha ih => rw [Finset.fold_insert ha, Finset.fold_insert ha, minsi_toInt, ih]
  apply BitVec.eq_of_toInt_eq
  rw [hm, toInt_lane]
  have hp := (pick d).isLt
  apply le_antisymm
  · refine (Finset.fold_min_le _).mpr (Or.inr ⟨pick d, Finset.mem_univ _, ?_⟩)
    rw [hf, if_pos rfl, toInt_lane]
  · refine (Finset.le_fold_min _).mpr ⟨by omega, fun l _ => ?_⟩
    rw [hf]
    split
    · next h =>
      rw [toInt_lane]
      have := pick_first d l fun k => h ▸ pick_le d k
      exact_mod_cast this
    · have : (1024#32 : BitVec 32).toInt = 1024 := by decide
      rw [this]; omega

/-! ## The left fold over pairs -/

/-- The order of pairs by value, then by signed index. -/
def Before (a b : EReal × BitVec 32) : Prop := a.1 < b.1 ∨ a.1 = b.1 ∧ a.2.toInt ≤ b.2.toInt

theorem before_refl (a : EReal × BitVec 32) : Before a a := Or.inr ⟨rfl, le_rfl⟩

theorem before_trans {a b c : EReal × BitVec 32} (h : Before a b) (h' : Before b c) : Before a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- A body that returns one of its two pairs, and one before both, folds a list to a pair before all. -/
theorem foldl_before (f : EReal × BitVec 32 → EReal × BitVec 32 → EReal × BitVec 32)
    (hf : ∀ a b, (f a b = a ∨ f a b = b) ∧ Before (f a b) a ∧ Before (f a b) b) (L : List (EReal × BitVec 32)) :
    ∀ a, (L.foldl f a = a ∨ L.foldl f a ∈ L) ∧ Before (L.foldl f a) a ∧ ∀ q ∈ L, Before (L.foldl f a) q := by
  induction L with
  | nil => exact fun a => ⟨Or.inl rfl, before_refl a, fun q hq => absurd hq List.not_mem_nil⟩
  | cons b L ih =>
    intro a
    obtain ⟨h1, h2, h3⟩ := ih (f a b)
    obtain ⟨g1, g2, g3⟩ := hf a b
    rw [List.foldl_cons]
    refine ⟨?_, before_trans h2 g2, fun q hq => ?_⟩
    · rcases h1 with h1 | h1
      · rcases g1 with g1 | g1
        · exact Or.inl (h1.trans g1)
        · exact Or.inr (List.mem_cons.mpr (Or.inl (h1.trans g1)))
      · exact Or.inr (List.mem_cons_of_mem _ h1)
    · rcases List.mem_cons.mp hq with rfl | hq
      · exact before_trans h2 g3
      · exact h3 q hq

/-- Over the (value, lane) pairs of a row, from plus infinity at lane 0, such a fold ends at the first nearest lane. -/
theorem foldl_pick (f : EReal × BitVec 32 → EReal × BitVec 32 → EReal × BitVec 32)
    (hf : ∀ a b, (f a b = a ∨ f a b = b) ∧ Before (f a b) a ∧ Before (f a b) b) (d : Fin 1024 → EReal)
    (L : List (EReal × BitVec 32)) (hL : ∀ q, q ∈ L ↔ ∃ l : Fin 1024, q = (d l, BitVec.ofNat 32 l.val)) :
    (L.foldl f (⊤, 0#32)).2 = BitVec.ofNat 32 (pick d).val := by
  obtain ⟨h1, h2, h3⟩ := foldl_before f hf L (⊤, 0#32)
  have hp : Before (L.foldl f (⊤, 0#32)) (d (pick d), BitVec.ofNat 32 (pick d).val) := h3 _ ((hL _).mpr ⟨_, rfl⟩)
  have z : (0#32 : BitVec 32).toInt = 0 := by decide
  apply BitVec.eq_of_toInt_eq
  rw [toInt_lane]
  rcases h1 with h1 | h1
  · -- the fold kept its start: every value is plus infinity
    rw [h1] at hp ⊢
    rcases hp with hp | ⟨hp, _⟩
    · exact absurd hp not_top_lt
    · have h0 := pick_first d 0 fun k => by
        have : d k = ⊤ := top_le_iff.mp (le_trans (le_of_eq hp) (pick_le d k))
        rw [this]; exact le_top
      have : (pick d).val = 0 := Nat.le_zero.mp h0
      rw [this]; exact z
  · obtain ⟨l, hl⟩ := (hL _).mp h1
    rw [hl] at hp h3 ⊢
    have hmin : ∀ k, d l ≤ d k := fun k => by
      rcases h3 _ ((hL _).mpr ⟨k, rfl⟩) with h | ⟨h, _⟩
      · exact le_of_lt h
      · exact le_of_eq h
    have h4 := pick_first d l hmin
    have h5 : (l.val : ℤ) ≤ (pick d).val := by
      rcases hp with hp | ⟨_, hp⟩
      · exact absurd hp (not_lt.mpr (pick_le d l))
      · rwa [toInt_lane, toInt_lane] at hp
    have h6 : (pick d).val ≤ l.val := h4
    rw [toInt_lane]
    omega

/-! ## One quantization level -/

/-- The squared distances of a row to the entries of a codebook. -/
def dist (r : Fin 64 → EReal) (c : Fin 1024 → Fin 64 → EReal) (l : Fin 1024) : EReal :=
  ∑ k, r k * r k + ∑ k, c l k * c l k - Ideal.ofBits .f32 0x40000000#32 * ∑ k, r k * c l k

/-- The first nearest entry. -/
def code (r : Fin 64 → EReal) (c : Fin 1024 → Fin 64 → EReal) : Fin 1024 := pick (dist r c)

/-- What the nearest entry misses of the row. -/
def miss (r : Fin 64 → EReal) (c : Fin 1024 → Fin 64 → EReal) (j : Fin 64) : EReal := c (code r c) j - r j

/-- The straight-through value. -/
def through (r : Fin 64 → EReal) (c : Fin 1024 → Fin 64 → EReal) (j : Fin 64) : EReal := r j + miss r c j

/-- The residual. -/
def next (r : Fin 64 → EReal) (c : Fin 1024 → Fin 64 → EReal) (j : Fin 64) : EReal := r j - through r c j

/-! ## The four levels -/

section
variable (z : Fin 64 → EReal) (c : Fin 4 → Fin 1024 → Fin 64 → EReal)

/-- The row that reaches a level. -/
def res : ℕ → Fin 64 → EReal
  | 0 => z
  | n + 1 => next (res n) (c (Fin.ofNat 4 n))

/-- The quantized row. -/
def quant (j : Fin 64) : EReal :=
  0 + through (res z c 0) (c 0) j + through (res z c 1) (c 1) j + through (res z c 2) (c 2) j + through (res z c 3) (c 3) j

/-- The four codes. -/
def codes (l : Fin 4) : BitVec 32 := BitVec.ofNat 32 (code (res z c l.val) (c l)).val

/-- The sum of the squares of what a level misses. -/
def gap (l : Fin 4) : EReal := ∑ j, miss (res z c l.val) (c l) j * miss (res z c l.val) (c l) j
end

end Cert.Rows

end
-- ==== Proof.BlockRows.lean ====
/- The kernel's block functions read a row at a time over the extended reals. -/
module

public import proofs.«01_k».proof.Proof.Block
public import proofs.«01_k».proof.Proof.Rows

@[expose] public section

noncomputable section

namespace Cert.KernelIdeal.Block

open Cert.KernelIdeal Cert.KernelIdeal.Gen Idealize.ShloMosaic

set_option maxRecDepth 16384

/-- A row of a block of rows of 64. -/
def row (r : FVec Ideal S1024x64 .f32) (p : Fin 1024) : Fin 64 → EReal := fun j => r (ix2 p j)

/-- A one-level codebook as a table. -/
def table (cb : Vec Ideal S1x1024x64 .f32) : Fin 1024 → Fin 64 → EReal := fun l j => cb (ix3 0 l j)

/-- A transposed codebook goes with a codebook. -/
def Goes (cb : Vec Ideal S1x1024x64 .f32) (ct : Vec Ideal S1x64x1024 .f32) : Prop :=
  ∀ (l : Fin 1024) (k : Fin 64), ct (ix3 0 k l) = cb (ix3 0 l k)

theorem enc_apply (x : Vec Ideal S1024x256 .f32) (w1 : Vec Ideal S256x256 .f32) (b1 : Vec Ideal S1x256 .f32)
    (w2 : Vec Ideal S256x64 .f32) (b2 : Vec Ideal S1x64 .f32) (p : Fin 1024) (j : Fin 64) :
    enc x w1 b1 w2 b2 (ix2 p j) = Rows.layers (fun k => x (ix2 p k)) (fun k l => w1 (ix2 k l)) (fun l => b1 (ix2 0 l))
      (fun k l => w2 (ix2 k l)) (fun l => b2 (ix2 0 l)) j := by
  pointwise [enc, pos, wide]
  rfl

theorem dec_apply (z : FVec Ideal S1024x64 .f32) (w1 : Vec Ideal S64x256 .f32) (b1 : Vec Ideal S1x256 .f32)
    (w2 : Vec Ideal S256x256 .f32) (b2 : Vec Ideal S1x256 .f32) (p : Fin 1024) (j : Fin 256) :
    dec z w1 b1 w2 b2 (ix2 p j) = Rows.layers (row z p) (fun k l => w1 (ix2 k l)) (fun l => b1 (ix2 0 l))
      (fun k l => w2 (ix2 k l)) (fun l => b2 (ix2 0 l)) j := by
  pointwise [dec, pos, wide]
  rfl

theorem dist_apply (r : FVec Ideal S1024x64 .f32) (cb : Vec Ideal S1x1024x64 .f32) (ct : Vec Ideal S1x64x1024 .f32)
    (h : Goes cb ct) (p l : Fin 1024) : dist r ct (ix2 p l) = Rows.dist (row r p) (table cb) l := by
  pointwise [dist]
  simp only [h l]
  rfl

theorem top_pattern : Ideal.ofBits .f32 0x7F800000#32 = (⊤ : EReal) := by
  simp [Ideal.ofBits, Ideal.ieee]

theorem least_apply (d : FVec Ideal S1024x1024 .f32) (p l : Fin 1024) :
    least d (ix2 p l) = BitVec.ofBool (decide (d (ix2 p l) = d (ix2 p (Rows.pick fun k => d (ix2 p k))))) := by
  pointwise [least]
  rw [top_pattern, Rows.fold_min_eq fun k => d (ix2 p k)]

theorem first_apply (d : FVec Ideal S1024x1024 .f32) (p : Fin 1024) :
    first (least d) (ix2 p 0) = BitVec.ofNat 32 (Rows.pick fun k => d (ix2 p k)).val := by
  pointwise [first]
  refine Rows.fold_minsi_eq (fun k => d (ix2 p k)) _ fun l => ?_
  rw [least_apply]
  by_cases h : d (ix2 p l) = d (ix2 p (Rows.pick fun k => d (ix2 p k)))
  · rw [if_pos h, decide_eq_true h]; rfl
  · rw [if_neg h, decide_eq_false h]; rfl

theorem code_apply (r : FVec Ideal S1024x64 .f32) (cb : Vec Ideal S1x1024x64 .f32) (ct : Vec Ideal S1x64x1024 .f32)
    (h : Goes cb ct) (p : Fin 1024) : code r ct (ix2 p 0) = BitVec.ofNat 32 (Rows.code (row r p) (table cb)).val := by
  have e : (fun k => dist r ct (ix2 p k)) = Rows.dist (row r p) (table cb) := funext fun k => dist_apply r cb ct h p k
  unfold code Rows.code
  rw [first_apply, e]

theorem rowsAt_apply (i : IVec S1024x1 32) (cb : Vec Ideal S1x1024x64 .f32) (p l : Fin 1024) (j : Fin 64)
    (hi : i (ix2 p 0) = BitVec.ofNat 32 l.val) : rowsAt i cb (ix2 p j) = table cb l j := by
  pointwise [rowsAt]
  rw [hi, Finset.sum_eq_single l]
  · have e : IntOp.cmpi .eq (BitVec.ofNat 32 l.val) (BitVec.ofNat 32 l.val) = 1#1 := by simp [IntOp.cmpi]
    rw [e]
    have e' : (FloatOps.sitofp (F := Ideal) .f32 (BitVec.setWidth 32 1#1) : EReal) = 1 := by
      show ((((BitVec.setWidth 32 1#1).toInt : ℝ)) : EReal) = 1
      have : (BitVec.setWidth 32 1#1).toInt = 1 := by decide
      rw [this]; norm_num
    rw [e', one_mul]
    rfl
  · intro x _ hx
    have e : IntOp.cmpi .eq (BitVec.ofNat 32 x.val) (BitVec.ofNat 32 l.val) = 0#1 := by
      have hne : BitVec.ofNat 32 x.val ≠ BitVec.ofNat 32 l.val := fun q => hx (Fin.ext (by
        have := congrArg BitVec.toInt q
        rw [Rows.toInt_lane, Rows.toInt_lane] at this
        exact_mod_cast this))
      have hb : (BitVec.ofNat 32 x.val == BitVec.ofNat 32 l.val) = false := beq_eq_false_iff_ne.mpr hne
      unfold IntOp.cmpi
      rw [hb]; rfl
    rw [e]
    have e' : (FloatOps.sitofp (F := Ideal) .f32 (BitVec.setWidth 32 0#1) : EReal) = 0 := by
      show ((((BitVec.setWidth 32 0#1).toInt : ℝ)) : EReal) = 0
      have : (BitVec.setWidth 32 0#1).toInt = 0 := by decide
      rw [this]; norm_num
    rw [e', zero_mul]
  · exact fun h => absurd (Finset.mem_univ _) h

section
variable (r : FVec Ideal S1024x64 .f32) (cb : Vec Ideal S1x1024x64 .f32) (ct : Vec Ideal S1x64x1024 .f32) (h : Goes cb ct)
include h

theorem row_miss (p : Fin 1024) : row (miss r cb ct) p = Rows.miss (row r p) (table cb) := by
  funext j
  show rowsAt (code r ct) cb (ix2 p j) - r (ix2 p j) = _
  rw [rowsAt_apply _ cb p _ j (code_apply r cb ct h p)]
  rfl

theorem row_through (p : Fin 1024) : row (through r cb ct) p = Rows.through (row r p) (table cb) := by
  funext j
  have e : row (miss r cb ct) p j = Rows.miss (row r p) (table cb) j := congrFun (row_miss r cb ct h p) j
  show row r p j + row (miss r cb ct) p j = _
  rw [e]; rfl

theorem row_next (p : Fin 1024) : row (next r cb ct) p = Rows.next (row r p) (table cb) := by
  funext j
  have e : row (through r cb ct) p j = Rows.through (row r p) (table cb) j := congrFun (row_through r cb ct h p) j
  show row r p j - row (through r cb ct) p j = _
  rw [e]; rfl
end

theorem sum64_apply (d : FVec Ideal S1024x64 .f32) : sum64 d (ix2 0 0) = ∑ p, ∑ j, row d p j * row d p j := by
  pointwise [sum64]
  rfl

theorem sum256_apply (d : FVec Ideal S1024x256 .f32) :
    sum256 d (ix2 0 0) = ∑ p : Fin 1024, ∑ j : Fin 256, (d (ix2 p j) * d (ix2 p j) : EReal) := by
  pointwise [sum256]

/-! ## The four levels -/

theorem cb0_apply (c : Vec Ideal S4x1024x64 .f32) (l : Fin 1024) (k : Fin 64) : cb0 c (ix3 0 l k) = c (ix3 0 l k) := by
  pointwise [cb0]
theorem cb1_apply (c : Vec Ideal S4x1024x64 .f32) (l : Fin 1024) (k : Fin 64) : cb1 c (ix3 0 l k) = c (ix3 1 l k) := by
  pointwise [cb1]
theorem cb2_apply (c : Vec Ideal S4x1024x64 .f32) (l : Fin 1024) (k : Fin 64) : cb2 c (ix3 0 l k) = c (ix3 2 l k) := by
  pointwise [cb2]
theorem cb3_apply (c : Vec Ideal S4x1024x64 .f32) (l : Fin 1024) (k : Fin 64) : cb3 c (ix3 0 l k) = c (ix3 3 l k) := by
  pointwise [cb3]
theorem ct0_apply (c : Vec Ideal S4x64x1024 .f32) (k : Fin 64) (l : Fin 1024) : ct0 c (ix3 0 k l) = c (ix3 0 k l) := by
  pointwise [ct0]
theorem ct1_apply (c : Vec Ideal S4x64x1024 .f32) (k : Fin 64) (l : Fin 1024) : ct1 c (ix3 0 k l) = c (ix3 1 k l) := by
  pointwise [ct1]
theorem ct2_apply (c : Vec Ideal S4x64x1024 .f32) (k : Fin 64) (l : Fin 1024) : ct2 c (ix3 0 k l) = c (ix3 2 k l) := by
  pointwise [ct2]
theorem ct3_apply (c : Vec Ideal S4x64x1024 .f32) (k : Fin 64) (l : Fin 1024) : ct3 c (ix3 0 k l) = c (ix3 3 k l) := by
  pointwise [ct3]

/-- The four codebooks as tables. -/
def tables (c : Vec Ideal S4x1024x64 .f32) : Fin 4 → Fin 1024 → Fin 64 → EReal := fun l e j => c (ix3 l e j)

section
variable (z : FVec Ideal S1024x64 .f32) (cb : Vec Ideal S4x1024x64 .f32) (ct : Vec Ideal S4x64x1024 .f32)
  (h : ∀ (n : Fin 4) (l : Fin 1024) (k : Fin 64), ct (ix3 n k l) = cb (ix3 n l k)) (p : Fin 1024)

theorem table0 : table (cb0 cb) = tables cb 0 := funext fun l => funext fun j => cb0_apply cb l j
theorem table1 : table (cb1 cb) = tables cb 1 := funext fun l => funext fun j => cb1_apply cb l j
theorem table2 : table (cb2 cb) = tables cb 2 := funext fun l => funext fun j => cb2_apply cb l j
theorem table3 : table (cb3 cb) = tables cb 3 := funext fun l => funext fun j => cb3_apply cb l j

include h
theorem goes0 : Goes (cb0 cb) (ct0 ct) := fun l k => by rw [cb0_apply, ct0_apply, h]
theorem goes1 : Goes (cb1 cb) (ct1 ct) := fun l k => by rw [cb1_apply, ct1_apply, h]
theorem goes2 : Goes (cb2 cb) (ct2 ct) := fun l k => by rw [cb2_apply, ct2_apply, h]
theorem goes3 : Goes (cb3 cb) (ct3 ct) := fun l k => by rw [cb3_apply, ct3_apply, h]

theorem row_res1 : row (res1 z cb ct) p = Rows.res (row z p) (tables cb) 1 := by
  unfold res1
  rw [row_next _ _ _ (goes0 cb ct h), table0]; rfl
theorem row_res2 : row (res2 z cb ct) p = Rows.res (row z p) (tables cb) 2 := by
  unfold res2
  rw [row_next _ _ _ (goes1 cb ct h), row_res1 z cb ct h, table1]; rfl
theorem row_res3 : row (res3 z cb ct) p = Rows.res (row z p) (tables cb) 3 := by
  unfold res3
  rw [row_next _ _ _ (goes2 cb ct h), row_res2 z cb ct h, table2]; rfl

theorem row_quant : row (quant z cb ct) p = Rows.quant (row z p) (tables cb) := by
  funext j
  have e0 := congrFun (row_through z _ _ (goes0 cb ct h) p) j
  have e1 := congrFun (row_through (res1 z cb ct) _ _ (goes1 cb ct h) p) j
  have e2 := congrFun (row_through (res2 z cb ct) _ _ (goes2 cb ct h) p) j
  have e3 := congrFun (row_through (res3 z cb ct) _ _ (goes3 cb ct h) p) j
  rw [table0] at e0
  rw [table1, row_res1 z cb ct h] at e1
  rw [table2, row_res2 z cb ct h] at e2
  rw [table3, row_res3 z cb ct h] at e3
  show Ideal.ofBits .f32 0x00000000#32 + row (through z (cb0 cb) (ct0 ct)) p j
    + row (through (res1 z cb ct) (cb1 cb) (ct1 ct)) p j + row (through (res2 z cb ct) (cb2 cb) (ct2 ct)) p j
    + row (through (res3 z cb ct) (cb3 cb) (ct3 ct)) p j = _
  rw [e0, e1, e2, e3, Ideal.ofBits_zero_f32]
  rfl

theorem codes_apply (l : Fin 4) : codes z cb ct (ix2 p l) = Rows.codes (row z p) (tables cb) l := by
  have e0 := code_apply z _ _ (goes0 cb ct h) p
  have e1 := code_apply (res1 z cb ct) _ _ (goes1 cb ct h) p
  have e2 := code_apply (res2 z cb ct) _ _ (goes2 cb ct h) p
  have e3 := code_apply (res3 z cb ct) _ _ (goes3 cb ct h) p
  rw [table0] at e0
  rw [table1, row_res1 z cb ct h] at e1
  rw [table2, row_res2 z cb ct h] at e2
  rw [table3, row_res3 z cb ct h] at e3
  fin_cases l
  · pointwise [codes]
    exact e0
  · pointwise [codes]
    exact e1
  · pointwise [codes]
    exact e2
  · pointwise [codes]
    exact e3

omit h p in
theorem sum64_row (d : FVec Ideal S1024x64 .f32) (g : Fin 1024 → Fin 64 → EReal) (e : ∀ p, row d p = g p) :
    sum64 d (ix2 0 0) = ∑ p, ∑ j, g p j * g p j := by
  rw [sum64_apply]; simp only [e]

omit p in
theorem missed_apply : missed z cb ct (ix2 0 0) = ∑ p, Rows.gap (row z p) (tables cb) 0 + ∑ p, Rows.gap (row z p) (tables cb) 1
    + ∑ p, Rows.gap (row z p) (tables cb) 2 + ∑ p, Rows.gap (row z p) (tables cb) 3 := by
  show Ideal.ofBits .f32 0x00000000#32 + sum64 (miss z (cb0 cb) (ct0 ct)) (ix2 0 0)
    + sum64 (miss (res1 z cb ct) (cb1 cb) (ct1 ct)) (ix2 0 0) + sum64 (miss (res2 z cb ct) (cb2 cb) (ct2 ct)) (ix2 0 0)
    + sum64 (miss (res3 z cb ct) (cb3 cb) (ct3 ct)) (ix2 0 0) = _
  rw [Ideal.ofBits_zero_f32, zero_add,
    sum64_row _ _ fun p => row_miss z _ _ (goes0 cb ct h) p,
    sum64_row _ _ fun p => row_miss (res1 z cb ct) _ _ (goes1 cb ct h) p,
    sum64_row _ _ fun p => row_miss (res2 z cb ct) _ _ (goes2 cb ct h) p,
    sum64_row _ _ fun p => row_miss (res3 z cb ct) _ _ (goes3 cb ct h) p]
  simp only [table0, table1, table2, table3, row_res1 z cb ct h, row_res2 z cb ct h, row_res3 z cb ct h]
  rfl
end

end Cert.KernelIdeal.Block

end
-- ==== Proof.Reads.lean ====
/- The kernel's input blocks read at an index: the rows of a point's block of `x`, and the whole weight, bias and
   codebook arrays, in terms of the program's arguments. -/
module

public import proofs.«01_k».proof.Proof.BlockVal
public import proofs.«01_k».proof.Proof.BlockRows
public import Idealize.ShloMosaic.Lib.Claim

@[expose] public section

noncomputable section

namespace Cert.KernelIdeal.Block

open Cert.KernelIdeal Cert.KernelIdeal.Gen Cert.KernelIdeal.Value Idealize.ShloMosaic

variable (m : (ℓ : Loc nD τ sig) → Buf (Elt Ideal) ℓ) (c : Dev nD) (t : Fin cfg0.N)

/-- The row of the whole array at a place of a point's block. -/
def rowOf (t : Fin cfg0.N) (p : Fin 1024) : Fin 16384 :=
  ⟨t.val * 1024 + p.val, by
    have h : t.val < 16 := lt_of_lt_of_eq t.isLt N_0
    have := p.isLt
    omega⟩

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_6.index t = ![0, 0, 0]
    ∧ win0_7.index t = ![0, 0] ∧ win0_8.index t = ![0, 0] ∧ win0_9.index t = ![0, 0] ∧ win0_10.index t = ![0, 0] :=
  (by decide +kernel : ∀ t : Fin grid0.N, _)

theorem read_x (p : Fin 1024) (k : Fin 256) :
    iblk m c 0 t (ix2 p k) = m ((c.tc : Thread nD τ).loc main_arg0) (ix2 (rowOf t p) k) := by
  unfold rowOf
  blk_point [iblk, V, idx t]

theorem read_w1 (k l : Fin 256) : iblk m c 1 t (ix2 k l) = m ((c.tc : Thread nD τ).loc main_arg1) (ix2 k l) := by
  blk_point [iblk, V, idx t]

theorem read_b1 (l : Fin 256) : iblk m c 2 t (ix2 0 l) = m ((c.tc : Thread nD τ).loc main_arg2) (ix1 l) := by
  blk_point [iblk, V, idx t]

theorem read_w2 (k : Fin 256) (l : Fin 64) : iblk m c 3 t (ix2 k l) = m ((c.tc : Thread nD τ).loc main_arg3) (ix2 k l) := by
  blk_point [iblk, V, idx t]

theorem read_b2 (l : Fin 64) : iblk m c 4 t (ix2 0 l) = m ((c.tc : Thread nD τ).loc main_arg4) (ix1 l) := by
  blk_point [iblk, V, idx t]

theorem read_cb (n : Fin 4) (l : Fin 1024) (k : Fin 64) :
    iblk m c 5 t (ix3 n l k) = m ((c.tc : Thread nD τ).loc main_arg5) (ix3 n l k) := by
  blk_point [iblk, V, idx t]

theorem read_ct (n : Fin 4) (k : Fin 64) (l : Fin 1024) :
    iblk m c 6 t (ix3 n k l) = m ((c.tc : Thread nD τ).loc main_arg5) (ix3 n l k) := by
  blk_point [iblk, V, idx t]

theorem read_v1 (k : Fin 64) (l : Fin 256) : iblk m c 7 t (ix2 k l) = m ((c.tc : Thread nD τ).loc main_arg6) (ix2 k l) := by
  blk_point [iblk, V, idx t]

theorem read_d1 (l : Fin 256) : iblk m c 8 t (ix2 0 l) = m ((c.tc : Thread nD τ).loc main_arg7) (ix1 l) := by
  blk_point [iblk, V, idx t]

theorem read_v2 (k l : Fin 256) : iblk m c 9 t (ix2 k l) = m ((c.tc : Thread nD τ).loc main_arg8) (ix2 k l) := by
  blk_point [iblk, V, idx t]

theorem read_d2 (l : Fin 256) : iblk m c 10 t (ix2 0 l) = m ((c.tc : Thread nD τ).loc main_arg9) (ix1 l) := by
  blk_point [iblk, V, idx t]

end Cert.KernelIdeal.Block

end
-- ==== Proof.Whole.lean ====
/- The whole computation, row by row, as a function of the ten arguments: what both programs are shown to compute. Also the
   arithmetic of the losses: a sum of four means is the mean of the sum, and a division by a power of two is a product. -/
module

public import proofs.«01_k».proof.Proof.Rows
public import Idealize.ShloMosaic.Lib.Pipeline.ValueKit.Acc

@[expose] public section

noncomputable section

namespace Cert.Rows

open Idealize.ShloMosaic

/-- The ten arguments as families of numbers. -/
structure Inputs where
  x : Fin 16384 → Fin 256 → EReal
  w1 : Fin 256 → Fin 256 → EReal
  b1 : Fin 256 → EReal
  w2 : Fin 256 → Fin 64 → EReal
  b2 : Fin 64 → EReal
  cb : Fin 4 → Fin 1024 → Fin 64 → EReal
  v1 : Fin 64 → Fin 256 → EReal
  d1 : Fin 256 → EReal
  v2 : Fin 256 → Fin 256 → EReal
  d2 : Fin 256 → EReal

namespace Inputs

variable (I : Inputs)

/-- A row after the encoder. -/
def z (i : Fin 16384) : Fin 64 → EReal := layers (I.x i) I.w1 I.b1 I.w2 I.b2

/-- A quantized row. -/
def q (i : Fin 16384) : Fin 64 → EReal := quant (I.z i) I.cb

/-- A row of the reconstruction. -/
def out (i : Fin 16384) : Fin 256 → EReal := layers (I.q i) I.v1 I.d1 I.v2 I.d2

/-- A row's squared error. -/
def err (i : Fin 16384) : EReal := ∑ j, (I.out i j - I.x i j) * (I.out i j - I.x i j)

/-- A level's squared distance from the codebook, over all rows. -/
def gaps (l : Fin 4) : EReal := ∑ i, gap (I.z i) I.cb l

/-- The codebook loss. -/
def cbl : EReal := (I.gaps 0 + I.gaps 1 + I.gaps 2 + I.gaps 3) * Ideal.ofBits .f32 0x35800000#32

/-- The commitment loss. -/
def comm : EReal := Ideal.ofBits .f32 0x3E800000#32 * I.cbl

/-- The reconstruction loss. -/
def recl : EReal := (∑ i, I.err i) * Ideal.ofBits .f32 0x34800000#32

end Inputs

/-! ## Powers of two -/

theorem pow20 : Ideal.ofBits .f32 0x49800000#32 = ((1048576 : ℝ) : EReal) := by
  simp [Ideal.ofBits, Ideal.ieee, -EReal.coe_mul]; norm_num

theorem pow22 : Ideal.ofBits .f32 0x4A800000#32 = ((4194304 : ℝ) : EReal) := by
  simp [Ideal.ofBits, Ideal.ieee, -EReal.coe_mul]; norm_num

theorem inv20 : Ideal.ofBits .f32 0x35800000#32 = ((1 / 1048576 : ℝ) : EReal) := by
  simp [Ideal.ofBits, Ideal.ieee, -EReal.coe_mul]; norm_num

theorem inv22 : Ideal.ofBits .f32 0x34800000#32 = ((1 / 4194304 : ℝ) : EReal) := by
  simp [Ideal.ofBits, Ideal.ieee, -EReal.coe_mul]; norm_num

theorem div20 (s : EReal) : Ideal.div s (Ideal.ofBits .f32 0x49800000#32) = s * Ideal.ofBits .f32 0x35800000#32 := by
  rw [pow20, inv20, Ideal.div_coe (by norm_num)]

theorem div22 (s : EReal) : Ideal.div s (Ideal.ofBits .f32 0x4A800000#32) = s * Ideal.ofBits .f32 0x34800000#32 := by
  rw [pow22, inv22, Ideal.div_coe (by norm_num)]

/-! ## The losses -/

theorem square_nonneg (a : EReal) : 0 ≤ a * a := by
  rcases le_total 0 a with h | h
  · exact mul_nonneg h h
  · have h' : 0 ≤ -a := EReal.neg_nonneg.mpr h
    have e := mul_nonneg h' h'
    rwa [neg_mul_neg] at e

theorem gap_nonneg (z : Fin 64 → EReal) (c : Fin 4 → Fin 1024 → Fin 64 → EReal) (l : Fin 4) : 0 ≤ gap z c l :=
  Finset.sum_nonneg fun _ _ => square_nonneg _

theorem gaps_nonneg (I : Inputs) (l : Fin 4) : 0 ≤ I.gaps l := Finset.sum_nonneg fun _ _ => gap_nonneg _ _ _

/-- The four levels' means add up to the mean of the four levels' sum. -/
theorem cbl_eq (I : Inputs) : Ideal.div (I.gaps 0) (Ideal.ofBits .f32 0x49800000#32)
    + Ideal.div (I.gaps 1) (Ideal.ofBits .f32 0x49800000#32) + Ideal.div (I.gaps 2) (Ideal.ofBits .f32 0x49800000#32)
    + Ideal.div (I.gaps 3) (Ideal.ofBits .f32 0x49800000#32) = I.cbl := by
  have h0 := gaps_nonneg I 0
  have h1 := gaps_nonneg I 1
  have h2 := gaps_nonneg I 2
  have h3 := gaps_nonneg I 3
  simp only [div20, Inputs.cbl]
  rw [EReal.right_distrib_of_nonneg (add_nonneg (add_nonneg h0 h1) h2) h3, EReal.right_distrib_of_nonneg (add_nonneg h0 h1) h2,
    EReal.right_distrib_of_nonneg h0 h1]

/-! ## Sums by blocks of 1024 rows -/

/-- The sum over the rows of a block. -/
def part (g : Fin 16384 → EReal) (k : ℕ) : EReal :=
  ∑ p : Fin 1024, if h : k * 1024 + p.val < 16384 then g ⟨k * 1024 + p.val, h⟩ else 0

theorem sum_part (g : Fin 16384 → EReal) : ∑ k ∈ Finset.range 16, part g k = ∑ i, g i := by
  rw [Finset.sum_range]
  exact Fin.sum_mul_add_congr (fun s p hl => dif_pos hl)

end Cert.Rows

end
-- ==== Proof.KernelWhole.lean ====
/- The kernel's seven results as the whole computation's, at every index. -/
module

public import proofs.«01_k».proof.Proof.Reads
public import proofs.«01_k».proof.Proof.Whole

@[expose] public section

noncomputable section

namespace Cert.KernelIdeal.Block

open Cert.KernelIdeal Cert.KernelIdeal.Gen Cert.KernelIdeal.Value Idealize.ShloMosaic

set_option maxRecDepth 16384

variable (m : (ℓ : Loc nD τ sig) → Buf (Elt Ideal) ℓ) (c : Dev nD)

/-- The kernel's arguments. -/
def inputs : Rows.Inputs where
  x i k := m ((c.tc : Thread nD τ).loc main_arg0) (ix2 i k)
  w1 k l := m ((c.tc : Thread nD τ).loc main_arg1) (ix2 k l)
  b1 l := m ((c.tc : Thread nD τ).loc main_arg2) (ix1 l)
  w2 k l := m ((c.tc : Thread nD τ).loc main_arg3) (ix2 k l)
  b2 l := m ((c.tc : Thread nD τ).loc main_arg4) (ix1 l)
  cb n l k := m ((c.tc : Thread nD τ).loc main_arg5) (ix3 n l k)
  v1 k l := m ((c.tc : Thread nD τ).loc main_arg6) (ix2 k l)
  d1 l := m ((c.tc : Thread nD τ).loc main_arg7) (ix1 l)
  v2 k l := m ((c.tc : Thread nD τ).loc main_arg8) (ix2 k l)
  d2 l := m ((c.tc : Thread nD τ).loc main_arg9) (ix1 l)

section
variable (t : Fin cfg0.N)

theorem row_z (p : Fin 1024) : row (zAt m c t) p = (inputs m c).z (rowOf t p) := by
  funext j
  show zAt m c t (ix2 p j) = _
  unfold zAt
  rw [enc_apply]
  simp only [read_x, read_w1, read_b1, read_w2, read_b2]
  rfl

theorem tables_cb : tables (iblk m c 5 t) = (inputs m c).cb := by
  funext n l k
  exact read_cb m c t n l k

theorem turned (n : Fin 4) (l : Fin 1024) (k : Fin 64) : iblk m c 6 t (ix3 n k l) = iblk m c 5 t (ix3 n l k) :=
  (read_ct m c t n k l).trans (read_cb m c t n l k).symm

theorem row_q (p : Fin 1024) : row (quantAt m c t) p = (inputs m c).q (rowOf t p) := by
  unfold quantAt
  rw [row_quant _ _ _ (turned m c t), row_z, tables_cb]
  rfl

theorem rec_row (p : Fin 1024) (j : Fin 256) : recAt m c t (ix2 p j) = (inputs m c).out (rowOf t p) j := by
  unfold recAt
  rw [dec_apply, row_q]
  simp only [read_v1, read_d1, read_v2, read_d2]
  rfl

theorem codes_row (p : Fin 1024) (l : Fin 4) :
    codesAt m c t (ix2 p l) = Rows.codes ((inputs m c).z (rowOf t p)) (inputs m c).cb l := by
  unfold codesAt
  rw [codes_apply _ _ _ (turned m c t), row_z, tables_cb]

theorem part_eq (g : Fin 16384 → EReal) : Rows.part g t.val = ∑ p : Fin 1024, g (rowOf t p) :=
  Finset.sum_congr rfl fun p _ => dif_pos (rowOf t p).isLt

theorem miss_part : missAt m c t (ix2 0 0)
    = Rows.part (fun i => Rows.gap ((inputs m c).z i) (inputs m c).cb 0) t.val
    + Rows.part (fun i => Rows.gap ((inputs m c).z i) (inputs m c).cb 1) t.val
    + Rows.part (fun i => Rows.gap ((inputs m c).z i) (inputs m c).cb 2) t.val
    + Rows.part (fun i => Rows.gap ((inputs m c).z i) (inputs m c).cb 3) t.val := by
  unfold missAt
  rw [missed_apply _ _ _ (turned m c t)]
  simp only [part_eq, row_z, tables_cb]

theorem err_part : errAt m c t (ix2 0 0) = Rows.part (inputs m c).err t.val := by
  unfold errAt
  rw [sum256_apply, part_eq]
  refine Finset.sum_congr rfl fun p _ => Finset.sum_congr rfl fun j _ => ?_
  have e : subf (recAt m c t) (iblk m c 0 t) (ix2 p j) = (inputs m c).out (rowOf t p) j - (inputs m c).x (rowOf t p) j := by
    show recAt m c t (ix2 p j) - iblk m c 0 t (ix2 p j) = _
    rw [rec_row, read_x]
    rfl
  rw [e]
end

/-! ## The arrays -/

theorem rowOf_split (i : Fin 16384) : rowOf (ptOf i) (locOf i) = i := by
  apply Fin.ext
  show i.val / 1024 * 1024 + i.val % 1024 = i.val
  omega

theorem loc11_eq (i : Fin 16384) (j : Fin 256) : loc11Of (ix2 i j) = ix2 (locOf i) j := by
  funext a
  match a with
  | ⟨0, _⟩ => rfl
  | ⟨1, _⟩ => exact Fin.ext (Nat.mod_eq_of_lt j.isLt)

theorem loc12_eq (i : Fin 16384) (j : Fin 64) : loc12Of (ix2 i j) = ix2 (locOf i) j := by
  funext a
  match a with
  | ⟨0, _⟩ => rfl
  | ⟨1, _⟩ => exact Fin.ext (Nat.mod_eq_of_lt j.isLt)

theorem loc13_eq (i : Fin 16384) (j : Fin 4) : loc13Of (ix2 i j) = ix2 (locOf i) j := by
  funext a
  match a with
  | ⟨0, _⟩ => rfl
  | ⟨1, _⟩ => exact Fin.ext (Nat.mod_eq_of_lt j.isLt)

theorem pt11_eq (i : Fin 16384) (j : Fin 256) : pt11Of (ix2 i j) = (ptOf i).val := by
  show 1 * (i.val / 1024 - 0) + 1 * (j.val / 256 - 0) = i.val / 1024
  omega

theorem pt12_eq (i : Fin 16384) (j : Fin 64) : pt12Of (ix2 i j) = (ptOf i).val := by
  show 1 * (i.val / 1024 - 0) + 1 * (j.val / 64 - 0) = i.val / 1024
  omega

theorem pt13_eq (i : Fin 16384) (j : Fin 4) : pt13Of (ix2 i j) = (ptOf i).val := by
  show 1 * (i.val / 1024 - 0) + 1 * (j.val / 4 - 0) = i.val / 1024
  omega

theorem G11_apply (i : Fin 16384) (j : Fin 256) : G11 m c (ix2 i j) = (inputs m c).out i j := by
  have h : pt11Of (ix2 i j) < cfg0.N := by rw [pt11_eq]; exact (ptOf i).isLt
  have e := fold0_congr m c (pt11Of (ix2 i j)) (by omega) (ptOf i).val (by have := (ptOf i).isLt; omega) (pt11_eq i j)
  unfold G11
  rw [dif_pos h, e, ← outsAt0_sweep m c (ptOf i).val (ptOf i).isLt, (outs_blocks m c (ptOf i)).1, loc11_eq, rec_row, rowOf_split]

theorem G12_apply (i : Fin 16384) (j : Fin 64) : G12 m c (ix2 i j) = (inputs m c).q i j := by
  have h : pt12Of (ix2 i j) < cfg0.N := by rw [pt12_eq]; exact (ptOf i).isLt
  have e := fold0_congr m c (pt12Of (ix2 i j)) (by omega) (ptOf i).val (by have := (ptOf i).isLt; omega) (pt12_eq i j)
  unfold G12
  rw [dif_pos h, e, ← outsAt0_sweep m c (ptOf i).val (ptOf i).isLt, (outs_blocks m c (ptOf i)).2.1, loc12_eq]
  have q := congrFun (row_q m c (ptOf i) (locOf i)) j
  rw [rowOf_split] at q
  exact q

theorem G13_apply (i : Fin 16384) (l : Fin 4) : G13 m c (ix2 i l) = Rows.codes ((inputs m c).z i) (inputs m c).cb l := by
  have h : pt13Of (ix2 i l) < cfg0.N := by rw [pt13_eq]; exact (ptOf i).isLt
  have e := fold0_congr m c (pt13Of (ix2 i l)) (by omega) (ptOf i).val (by have := (ptOf i).isLt; omega) (pt13_eq i l)
  unfold G13
  rw [dif_pos h, e, ← outsAt0_sweep m c (ptOf i).val (ptOf i).isLt, (outs_blocks m c (ptOf i)).2.2, loc13_eq, codes_row, rowOf_split]

/-! ## The sums -/

/-- The last point. -/
def last : Fin cfg0.N := ⟨15, lt_of_lt_of_eq (by decide) N_0.symm⟩

theorem zero_apply : (zero (F := Ideal)) (ix2 0 0) = (0 : EReal) := Ideal.ofBits_zero_f32

theorem miss_sum : (outsAt0 m c last.val last.isLt).2.2.2.2.2.2.2.1 (ix2 0 0)
    = (inputs m c).gaps 0 + (inputs m c).gaps 1 + (inputs m c).gaps 2 + (inputs m c).gaps 3 := by
  have e := Pipeline.eq_sum_of_reset_step_apply_single (N := cfg0.N) (ι := Unit) (M := EReal)
    (fun n h _ => (outsAt0 m c n h).2.2.2.2.2.2.2.1 (ix2 0 0)) 16 (fun _ => 0)
    (fun k _ => Rows.part (fun i => Rows.gap ((inputs m c).z i) (inputs m c).cb 0) k
      + Rows.part (fun i => Rows.gap ((inputs m c).z i) (inputs m c).cb 1) k
      + Rows.part (fun i => Rows.gap ((inputs m c).z i) (inputs m c).cb 2) k
      + Rows.part (fun i => Rows.gap ((inputs m c).z i) (inputs m c).cb 3) k)
    (fun t h0 _ => by
      rw [← miss_part, (sums_start m c t h0).1, ← zero_apply]
      rfl)
    (fun t h0 _ => by
      rw [← miss_part, (sums_step m c t h0).1]
      rfl)
    (le_of_eq N_0) last ()
  refine e.trans ?_
  show 0 + ∑ k ∈ Finset.range 16, _ = _
  rw [zero_add, Finset.sum_add_distrib, Finset.sum_add_distrib, Finset.sum_add_distrib]
  simp only [Rows.sum_part]
  rfl

theorem err_sum : (outsAt0 m c last.val last.isLt).2.2.2.2.2.2.2.2 (ix2 0 0) = ∑ i, (inputs m c).err i := by
  have e := Pipeline.eq_sum_of_reset_step_apply_single (N := cfg0.N) (ι := Unit) (M := EReal)
    (fun n h _ => (outsAt0 m c n h).2.2.2.2.2.2.2.2 (ix2 0 0)) 16 (fun _ => 0)
    (fun k _ => Rows.part (inputs m c).err k)
    (fun t h0 _ => by
      rw [← err_part, (sums_start m c t h0).2, ← zero_apply]
      rfl)
    (fun t h0 _ => by
      rw [← err_part, (sums_step m c t h0).2]
      rfl)
    (le_of_eq N_0) last ()
  refine e.trans ?_
  show 0 + ∑ k ∈ Finset.range 16, _ = _
  rw [zero_add]
  exact Rows.sum_part _

theorem scaled_miss : scaled (F := Ideal) (outsAt0 m c last.val last.isLt).2.2.2.2.2.2.2.1 0x35800000#32 (ix2 0 0) = (inputs m c).cbl := by
  show (outsAt0 m c last.val last.isLt).2.2.2.2.2.2.2.1 (ix2 0 0) * Ideal.ofBits .f32 0x35800000#32 = _
  rw [miss_sum]
  rfl

theorem scaled_err : scaled (F := Ideal) (outsAt0 m c last.val last.isLt).2.2.2.2.2.2.2.2 0x34800000#32 (ix2 0 0) = (inputs m c).recl := by
  show (outsAt0 m c last.val last.isLt).2.2.2.2.2.2.2.2 (ix2 0 0) * Ideal.ofBits .f32 0x34800000#32 = _
  rw [err_sum]
  rfl

theorem sweep_last : Pipeline.accAt (fun n h => stAt0 m c n h junk0) (stAt0 m c) 0 15 (lt_of_lt_of_eq (by decide) N_0.symm)
    = outsAt0 m c last.val last.isLt :=
  (outsAt0_sweep m c last.val last.isLt).symm

theorem commit_apply (s : FVec Ideal S1x1 .f32) : commit s (ix2 0 0) = Ideal.ofBits .f32 0x3E800000#32 * s (ix2 0 0) := rfl

theorem G14_apply : G14 m c (ix2 0 0) = (inputs m c).cbl := by
  rw [G14_last, sweep_last, (outs_last m c last rfl).1, scaled_miss]

theorem G15_apply : G15 m c (ix2 0 0) = (inputs m c).comm := by
  rw [G15_last, sweep_last, (outs_last m c last rfl).2.1, commit_apply, scaled_miss]
  rfl

theorem G16_apply : G16 m c (ix2 0 0) = (inputs m c).recl := by
  rw [G16_last, sweep_last, (outs_last m c last rfl).2.2.1, scaled_err]

theorem G17_apply : G17 m c (ix2 0 0) = (inputs m c).cbl + (inputs m c).comm + (inputs m c).recl := by
  rw [G17_last, sweep_last, (outs_last m c last rfl).2.2.2]
  show scaled _ _ (ix2 0 0) + commit _ (ix2 0 0) + scaled _ _ (ix2 0 0) = _
  rw [commit_apply, scaled_miss, scaled_err]
  rfl

end Cert.KernelIdeal.Block

end
-- ==== Proof.RefOps.lean ====
/- The reference program as a list of host operations, cut where the computation has a meaning: the encoder, for
   each of the four quantization levels the distances, the choice and the update, then the decoder with the losses.
   `run` reads any execution of the program as the composition of these lists. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- Four columns of codes side by side. -/
def codes4 (u0 u1 u2 u3 : (⟨S16384x1, .i32⟩ : BufTy).Contents (Elt F)) : (⟨S16384x4, .i32⟩ : BufTy).Contents (Elt F) :=
  concatenate S16384x4 1 [⟨S16384x1, u0⟩, ⟨S16384x1, u1⟩, ⟨S16384x1, u2⟩, ⟨S16384x1, u3⟩]
    concatenates_S16384x1_S16384x1_S16384x1_S16384x1_S16384x4_d1

/-- The operations of the encoder. -/
def opsE : List (HloOp τ sig (Elt F)) :=
  [ binary main_arg0 main_arg1 main_v0 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    unary main_arg2 main_v1 (broadcastInDim S1x256 ![1] bcast_S256_S1x256_1 : (⟨S256, .f32⟩ : BufTy).Contents (Elt F) → (⟨S1x256, .f32⟩ : BufTy).Contents (Elt F)),
    unary main_v1 main_v2 (broadcastInDim S16384x256 ![0, 1] bcast_S1x256_S16384x256_0_1 : (⟨S1x256, .f32⟩ : BufTy).Contents (Elt F) → (⟨S16384x256, .f32⟩ : BufTy).Contents (Elt F)),
    binary main_v0 main_v2 main_v3 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x256, .f32⟩) main_call0_v0) (broadcastInDim S16384x256 ![] bcast_S_S16384x256),
    TRef.binary (TRef.of (T := ⟨S16384x256, .f32⟩) main_v3) (TRef.of (T := ⟨S16384x256, .f32⟩) main_call0_v0) (TRef.of (T := ⟨S16384x256, .f32⟩) main_v4) maximumf,
    binary main_v4 main_arg3 main_v5 ((fun l r => Host.dotGeneral dot_S16384x256_S256x64_S16384x64_1_0_0_1_n_n none l r) : (⟨S16384x256, .f32⟩ : BufTy).Contents (Elt F) → (⟨S256x64, .f32⟩ : BufTy).Contents (Elt F) → (⟨S16384x64, .f32⟩ : BufTy).Contents (Elt F)),
    unary main_arg4 main_v6 (broadcastInDim S1x64 ![1] bcast_S64_S1x64_1 : (⟨S64, .f32⟩ : BufTy).Contents (Elt F) → (⟨S1x64, .f32⟩ : BufTy).Contents (Elt F)),
    unary main_v6 main_v7 (broadcastInDim S16384x64 ![0, 1] bcast_S1x64_S16384x64_0_1 : (⟨S1x64, .f32⟩ : BufTy).Contents (Elt F) → (⟨S16384x64, .f32⟩ : BufTy).Contents (Elt F)),
    binary main_v5 main_v7 main_v8 (addf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    unary main_cst main_v9 (broadcastInDim S16384x64 ![] bcast_S_S16384x64 : (⟨S_, .f32⟩ : BufTy).Contents (Elt F) → (⟨S16384x64, .f32⟩ : BufTy).Contents (Elt F)) ]

/-- The operations of the first level's codebook and distances. -/
def opsD0 : List (HloOp τ sig (Elt F)) :=
  [ unary main_arg5 main_v10 ((extractStridedSlice S1x1024x64 ![0, 0, 0] · slices_S4x1024x64_S1x1024x64_0_0_0) : (⟨S4x1024x64, .f32⟩ : BufTy).Contents (Elt F) → (⟨S1x1024x64, .f32⟩ : BufTy).Contents (Elt F)),
    reshape main_v10 main_v11 (rfl : (.f32 : EltTy) = .f32) shapeCasts_S1x1024x64_S1024x64,
    binary main_v8 main_v8 main_v12 (mulf : (⟨S16384x64, .f32⟩ : BufTy).Contents (Elt F) → (⟨S16384x64, .f32⟩ : BufTy).Contents (Elt F) → (⟨S16384x64, .f32⟩ : BufTy).Contents (Elt F)),
    nullary main_cst_0 (constant S_ .f32 0x00000000#32),
    binary main_v12 main_cst_0 main_v13 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v13 main_v14 (broadcastInDim S16384x1 ![0] bcast_S16384_S16384x1_0 : (⟨S16384, .f32⟩ : BufTy).Contents (Elt F) → (⟨S16384x1, .f32⟩ : BufTy).Contents (Elt F)),
    binary main_v11 main_v11 main_v15 (mulf : (⟨S1024x64, .f32⟩ : BufTy).Contents (Elt F) → (⟨S1024x64, .f32⟩ : BufTy).Contents (Elt F) → (⟨S1024x64, .f32⟩ : BufTy).Contents (Elt F)),
    nullary main_cst_1 (constant S_ .f32 0x00000000#32),
    binary main_v15 main_cst_1 main_v16 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v16 main_v17 (broadcastInDim S1x1024 ![1] bcast_S1024_S1x1024_1 : (⟨S1024, .f32⟩ : BufTy).Contents (Elt F) → (⟨S1x1024, .f32⟩ : BufTy).Contents (Elt F)),
    unary main_v14 main_v18 (broadcastInDim S16384x1024 ![0, 1] bcast_S16384x1_S16384x1024_0_1 : (⟨S16384x1, .f32⟩ : BufTy).Contents (Elt F) → (⟨S16384x1024, .f32⟩ : BufTy).Contents (Elt F)),
    unary main_v17 main_v19 (broadcastInDim S16384x1024 ![0, 1] bcast_S1x1024_S16384x1024_0_1 : (⟨S1x1024, .f32⟩ : BufTy).Contents (Elt F) → (⟨S16384x1024, .f32⟩ : BufTy).Contents (Elt F)),
    binary main_v18 main_v19 main_v20 (addf : (⟨S16384x1024, .f32⟩ : BufTy).Contents (Elt F) → (⟨S16384x1024, .f32⟩ : BufTy).Contents (Elt F) → (⟨S16384x1024, .f32⟩ : BufTy).Contents (Elt F)),
    unary main_v11 main_v21 ((transpose S64x1024 [1, 0] · transposes_S1024x64_S64x1024_1_0) : (⟨S1024x64, .f32⟩ : BufTy).Contents (Elt F) → (⟨S64x1024, .f32⟩ : BufTy).Contents (Elt F)),
    binary main_v8 main_v21 main_v22 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_2 (constant S_ .f32 0x40000000#32),
    unary main_cst_2 main_v23 (broadcastInDim S16384x1024 ![] bcast_S_S16384x1024 : (⟨S_, .f32⟩ : BufTy).Contents (Elt F) → (⟨S16384x1024, .f32⟩ : BufTy).Contents (Elt F)),
    binary main_v23 main_v22 main_v24 (mulf : (⟨S16384x1024, .f32⟩ : BufTy).Contents (Elt F) → (⟨S16384x1024, .f32⟩ : BufTy).Contents (Elt F) → (⟨S16384x1024, .f32⟩ : BufTy).Contents (Elt F)),
    binary main_v20 main_v24 main_v25 (subf : (⟨S16384x1024, .f32⟩ : BufTy).Contents (Elt F) → (⟨S16384x1024, .f32⟩ : BufTy).Contents (Elt F) → (⟨S16384x1024, .f32⟩ : BufTy).Contents (Elt F)) ]

/-- The operations of the first level's nearest entry and its row of the codebook. -/
def opsM0 : List (HloOp τ sig (Elt F)) :=
  [ TRef.nullary (TRef.of (T := ⟨S16384x1024, .i32⟩) main_call1_v0) (iotaInDim S16384x1024 32 1),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S16384x1024, .f32⟩) main_v25) (TRef.of (T := ⟨S16384x1024, .i32⟩) main_call1_v0) (TRef.of (T := ⟨S_, .f32⟩) main_call1_cst) (TRef.of (T := ⟨S_, .i32⟩) main_call1_c) (TRef.of (T := ⟨S16384, .f32⟩) main_call1_v1_0) (fun x y u v j => (Host.argReduce reducer_argmin_f32_i32 x y u v reducesTo_S16384x1024_S16384_d1 h_S_ j).1),
    TRef.quaternary (TRef.of (T := ⟨S16384x1024, .f32⟩) main_v25) (TRef.of (T := ⟨S16384x1024, .i32⟩) main_call1_v0) (TRef.of (T := ⟨S_, .f32⟩) main_call1_cst) (TRef.of (T := ⟨S_, .i32⟩) main_call1_c) (TRef.of (T := ⟨S16384, .i32⟩) main_v26) (fun x y u v j => (Host.argReduce reducer_argmin_f32_i32 x y u v reducesTo_S16384x1024_S16384_d1 h_S_ j).2),
    TRef.nullary (TRef.of (T := ⟨S_, .i32⟩) main_call2_c) (constantI S_ 32 0#32),
    TRef.unary (TRef.of (T := ⟨S_, .i32⟩) main_call2_c) (TRef.of (T := ⟨S16384, .i32⟩) main_call2_v0) (broadcastInDim S16384 ![] bcast_S_S16384),
    TRef.binary (TRef.of (T := ⟨S16384, .i32⟩) main_v26) (TRef.of (T := ⟨S16384, .i32⟩) main_call2_v0) (TRef.of (T := ⟨S16384, .i1⟩) main_call2_v1) (cmpi .slt),
    TRef.nullary (TRef.of (T := ⟨S_, .i32⟩) main_call2_c_0) (constantI S_ 32 1024#32),
    TRef.unary (TRef.of (T := ⟨S_, .i32⟩) main_call2_c_0) (TRef.of (T := ⟨S16384, .i32⟩) main_call2_v2) (broadcastInDim S16384 ![] bcast_S_S16384),
    TRef.binary (TRef.of (T := ⟨S16384, .i32⟩) main_v26) (TRef.of (T := ⟨S16384, .i32⟩) main_call2_v2) (TRef.of (T := ⟨S16384, .i32⟩) main_call2_v3) addi,
    TRef.ternary (TRef.of (T := ⟨S16384, .i1⟩) main_call2_v1) (TRef.of (T := ⟨S16384, .i32⟩) main_call2_v3) (TRef.of (T := ⟨S16384, .i32⟩) main_v26) (TRef.of (T := ⟨S16384, .i32⟩) main_call2_v4) select,
    TRef.unary (TRef.of (T := ⟨S16384, .i32⟩) main_call2_v4) (TRef.of (T := ⟨S16384x1, .i32⟩) main_call2_v5) (broadcastInDim S16384x1 ![0] bcast_S16384_S16384x1_0),
    TRef.nullary (TRef.of (T := ⟨S1, .i32⟩) main_call2_c_1) (constantI S1 32 1023#32),
    TRef.nullary (TRef.of (T := ⟨S_, .i32⟩) main_call2_c_2) (constantI S_ 32 0#32),
    TRef.unary (TRef.of (T := ⟨S_, .i32⟩) main_call2_c_2) (TRef.of (T := ⟨S16384x1, .i32⟩) main_call2_v6) (broadcastInDim S16384x1 ![] bcast_S_S16384x1),
    TRef.binary (TRef.of (T := ⟨S16384x1, .i32⟩) main_call2_v5) (TRef.of (T := ⟨S16384x1, .i32⟩) main_call2_v6) (TRef.of (T := ⟨S16384x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S16384x1, .i32⟩) main_call2_v9) (broadcastInDim S16384x1 ![0, 1] bcast_S1x1_S16384x1_0_1),
    TRef.binary (TRef.of (T := ⟨S16384x1, .i32⟩) main_call2_v5) (TRef.of (T := ⟨S16384x1, .i32⟩) main_call2_v9) (TRef.of (T := ⟨S16384x1, .i1⟩) main_call2_v10) (cmpi .sle),
    TRef.binary (TRef.of (T := ⟨S16384x1, .i1⟩) main_call2_v7) (TRef.of (T := ⟨S16384x1, .i1⟩) main_call2_v10) (TRef.of (T := ⟨S16384x1, .i1⟩) main_call2_v11) andi,
    TRef.nullary (TRef.of (T := ⟨S_, .i1⟩) main_call2_c_3) (constantI S_ 1 1#1),
    TRef.binary (TRef.of (T := ⟨S16384x1, .i1⟩) main_call2_v11) (TRef.of (T := ⟨S_, .i1⟩) main_call2_c_3) (TRef.of (T := ⟨S16384, .i1⟩) main_call2_v12) (fun x v => Host.reduce IntOp.andi x v reducesTo_S16384x1_S16384_d1 h_S_),
    TRef.binary (TRef.of (T := ⟨S1024x64, .f32⟩) main_v11) (TRef.of (T := ⟨S16384x1, .i32⟩) main_call2_v5) (TRef.of (T := ⟨S16384x64, .f32⟩) main_call2_v13) (fun x i => Host.gather gather_S1024x64_S16384x1_S16384x64_1_0_n_n_0_1_164 x i),
    TRef.unary (TRef.of (T := ⟨S16384, .i1⟩) main_call2_v12) (TRef.of (T := ⟨S16384x64, .i1⟩) main_call2_v14) (broadcastInDim S16384x64 ![0] bcast_S16384_S16384x64_0),
    TRef.nullary (TRef.of (T := ⟨S_, .f32⟩) main_call2_cst) (constant S_ .f32 0x7FC00000#32),
    TRef.unary (TRef.of (T := ⟨S_, .f32⟩) main_call2_cst) (TRef.of (T := ⟨S16384x64, .f32⟩) main_call2_v15) (broadcastInDim S16384x64 ![] bcast_S_S16384x64),
    TRef.ternary (TRef.of (T := ⟨S16384x64, .i1⟩) main_call2_v14) (TRef.of (T := ⟨S16384x64, .f32⟩) main_call2_v13) (TRef.of (T := ⟨S16384x64, .f32⟩) main_call2_v15) (TRef.of (T := ⟨S16384x64, .f32⟩) main_v27) select ]

/-- The operations of the first level's losses, straight-through value and residual. -/
def opsU0 : List (HloOp τ sig (Elt F)) :=
  [ binary main_v27 main_v8 main_v28 (subf : (⟨S16384x64, .f32⟩ : BufTy).Contents (Elt F) → (⟨S16384x64, .f32⟩ : BufTy).Contents (Elt F) → (⟨S16384x64, .f32⟩ : BufTy).Contents (Elt F)),
    binary main_v28 main_v28 main_v29 (mulf : (⟨S16384x64, .f32⟩ : BufTy).Contents (Elt F) → (⟨S16384x64, .f32⟩ : BufTy).Contents (Elt F) → (⟨S16384x64, .f32⟩ : BufTy).Contents (Elt F)),
    nullary main_cst_3 (constant S_ .f32 0x00000000#32),
    binary main_v29 main_cst_3 main_v30 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_4 (constant S_ .f32 0x49800000#32),
    binary main_v30 main_cst_4 main_v31 (Host.divf : (⟨S_, .f32⟩ : BufTy).Contents (Elt F) → (⟨S_, .f32⟩ : BufTy).Contents (Elt F) → (⟨S_, .f32⟩ : BufTy).Contents (Elt F)),
    binary main_v27 main_v8 main_v32 (subf : (⟨S16384x64, .f32⟩ : BufTy).Contents (Elt F) → (⟨S16384x64, .f32⟩ : BufTy).Contents (Elt F) → (⟨S16384x64, .f32⟩ : BufTy).Contents (Elt F)),
    binary main_v32 main_v32 main_v33 (mulf : (⟨S16384x64, .f32⟩ : BufTy).Contents (Elt F) → (⟨S16384x64, .f32⟩ : BufTy).Contents (Elt F) → (⟨S16384x64, .f32⟩ : BufTy).Contents (Elt F)),
    nullary main_cst_5 (constant S_ .f32 0x00000000#32),
    binary main_v33 main_cst_5 main_v34 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_6 (constant S_ .f32 0x49800000#32),
    binary main_v34 main_cst_6 main_v35 (Host.divf : (⟨S_, .f32⟩ : BufTy).Contents (Elt F) → (⟨S_, .f32⟩ : BufTy).Contents (Elt F) → (⟨S_, .f32⟩ : BufTy).Contents (Elt F)),
    nullary main_cst_7 (constant S_ .f32 0x00000000#32),
    binary main_cst_7 main_v31 main_v36 (addf : (⟨S_, .f32⟩ : BufTy).Contents (Elt F) → (⟨S_, .f32⟩ : BufTy).Contents (Elt F) → (⟨S_, .f32⟩ : BufTy).Contents (Elt F)),
    nullary main_cst_8 (constant S_ .f32 0x00000000#32),
    binary main_cst_8 main_v35 main_v37 (addf : (⟨S_, .f32⟩ : BufTy).Contents (Elt F) → (⟨S_, .f32⟩ : BufTy).Contents (Elt F) → (⟨S_, .f32⟩ : BufTy).Contents (Elt F)),
    binary main_v27 main_v8 main_v38 (subf : (⟨S16384x64, .f32⟩ : BufTy).Contents (Elt F) → (⟨S16384x64, .f32⟩ : BufTy).Contents (Elt F) → (⟨S16384x64, .f32⟩ : BufTy).Contents (Elt F)),
    binary main_v8 main_v38 main_v39 (addf : (⟨S16384x64, .f32⟩ : BufTy).Contents (Elt F) → (⟨S16384x64, .f32⟩ : BufTy).Contents (Elt F) → (⟨S16384x64, .f32⟩ : BufTy).Contents (Elt F)),
    binary main_v9 main_v39 main_v40 (addf : (⟨S16384x64, .f32⟩ : BufTy).Contents (Elt F) → (⟨S16384x64, .f32⟩ : BufTy).Contents (Elt F) → (⟨S16384x64, .f32⟩ : BufTy).Contents (Elt F)),
    binary main_v8 main_v39 main_v41 (subf : (⟨S16384x64, .f32⟩ : BufTy).Contents (Elt F) → (⟨S16384x64, .f32⟩ : BufTy).Contents (Elt F) → (⟨S16384x64, .f32⟩ : BufTy).Contents (Elt F)) ]

/-- The operations of the second level's codebook and distances (beginning). -/
def opsD1a : List (HloOp τ sig (Elt F)) :=
  [ unary main_arg5 main_v42 ((extractStridedSlice S1x1024x64 ![1, 0, 0] · slices_S4x1024x64_S1x1024x64_1_0_0) : (⟨S4x1024x64, .f32⟩ : BufTy).Contents (Elt F) → (⟨S1x1024x64, .f32⟩ : BufTy).Contents (Elt F)),
    reshape main_v42 main_v43 (rfl : (.f32 : EltTy) = .f32) shapeCasts_S1x1024x64_S1024x64,
    binary main_v41 main_v41 main_v44 (mulf : (⟨S16384x64, .f32⟩ : BufTy).Contents (Elt F) → (⟨S16384x64, .f32⟩ : BufTy).Contents (Elt F) → (⟨S16384x64, .f32⟩ : BufTy).Contents (Elt F)),
    nullary main_cst_9 (constant S_ .f32 0x00000000#32),
    binary main_v44 main_cst_9 main_v45 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v45 main_v46 (broadcastInDim S16384x1 ![0] bcast_S16384_S16384x1_0 : (⟨S16384, .f32⟩ : BufTy).Contents (Elt F) → (⟨S16384x1, .f32⟩ : BufTy).Contents (Elt F)),
    binary main_v43 main_v43 main_v47 (mulf : (⟨S1024x64, .f32⟩ : BufTy).Contents (Elt F) → (⟨S1024x64, .f32⟩ : BufTy).Contents (Elt F) → (⟨S1024x64, .f32⟩ : BufTy).Contents (Elt F)),
    nullary main_cst_10 (constant S_ .f32 0x00000000#32) ]

/-- The operations of the second level's codebook and distances (rest). -/
def opsD1b : List (HloOp τ sig (Elt F)) :=
  [ binary main_v47 main_cst_10 main_v48 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v48 main_v49 (broadcastInDim S1x1024 ![1] bcast_S1024_S1x1024_1 : (⟨S1024, .f32⟩ : BufTy).Contents (Elt F) → (⟨S1x1024, .f32⟩ : BufTy).Contents (Elt F)),
    unary main_v46 main_v50 (broadcastInDim S16384x1024 ![0, 1] bcast_S16384x1_S16384x1024_0_1 : (⟨S16384x1, .f32⟩ : BufTy).Contents (Elt F) → (⟨S16384x1024, .f32⟩ : BufTy).Contents (Elt F)),
    unary main_v49 main_v51 (broadcastInDim S16384x1024 ![0, 1] bcast_S1x1024_S16384x1024_0_1 : (⟨S1x1024, .f32⟩ : BufTy).Contents (Elt F) → (⟨S16384x1024, .f32⟩ : BufTy).Contents (Elt F)),
    binary main_v50 main_v51 main_v52 (addf : (⟨S16384x1024, .f32⟩ : BufTy).Contents (Elt F) → (⟨S16384x1024, .f32⟩ : BufTy).Contents (Elt F) → (⟨S16384x1024, .f32⟩ : BufTy).Contents (Elt F)),
    unary main_v43 main_v53 ((transpose S64x1024 [1, 0] · transposes_S1024x64_S64x1024_1_0) : (⟨S1024x64, .f32⟩ : BufTy).Contents (Elt F) → (⟨S64x1024, .f32⟩ : BufTy).Contents (Elt F)),
    binary main_v41 main_v53 main_v54 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_11 (constant S_ .f32 0x40000000#32),
    unary main_cst_11 main_v55 (broadcastInDim S16384x1024 ![] bcast_S_S16384x1024 : (⟨S_, .f32⟩ : BufTy).Contents (Elt F) → (⟨S16384x1024, .f32⟩ : BufTy).Contents (Elt F)),
    binary main_v55 main_v54 main_v56 (mulf : (⟨S16384x1024, .f32⟩ : BufTy).Contents (Elt F) → (⟨S16384x1024, .f32⟩ : BufTy).Contents (Elt F) → (⟨S16384x1024, .f32⟩ : BufTy).Contents (Elt F)),
    binary main_v52 main_v56 main_v57 (subf : (⟨S16384x1024, .f32⟩ : BufTy).Contents (Elt F) → (⟨S16384x1024, .f32⟩ : BufTy).Contents (Elt F) → (⟨S16384x1024, .f32⟩ : BufTy).Contents (Elt F)) ]

/-- The operations of the second level's nearest entry and its row of the codebook. -/
def opsM1 : List (HloOp τ sig (Elt F)) :=
  [ TRef.nullary (TRef.of (T := ⟨S16384x1024, .i32⟩) main_call3_v0) (iotaInDim S16384x1024 32 1),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S16384x1024, .f32⟩) main_v57) (TRef.of (T := ⟨S16384x1024, .i32⟩) main_call3_v0) (TRef.of (T := ⟨S_, .f32⟩) main_call3_cst) (TRef.of (T := ⟨S_, .i32⟩) main_call3_c) (TRef.of (T := ⟨S16384, .f32⟩) main_call3_v1_0) (fun x y u v j => (Host.argReduce reducer_argmin_f32_i32 x y u v reducesTo_S16384x1024_S16384_d1 h_S_ j).1),
    TRef.quaternary (TRef.of (T := ⟨S16384x1024, .f32⟩) main_v57) (TRef.of (T := ⟨S16384x1024, .i32⟩) main_call3_v0) (TRef.of (T := ⟨S_, .f32⟩) main_call3_cst) (TRef.of (T := ⟨S_, .i32⟩) main_call3_c) (TRef.of (T := ⟨S16384, .i32⟩) main_v58) (fun x y u v j => (Host.argReduce reducer_argmin_f32_i32 x y u v reducesTo_S16384x1024_S16384_d1 h_S_ j).2),
    TRef.nullary (TRef.of (T := ⟨S_, .i32⟩) main_call4_c) (constantI S_ 32 0#32),
    TRef.unary (TRef.of (T := ⟨S_, .i32⟩) main_call4_c) (TRef.of (T := ⟨S16384, .i32⟩) main_call4_v0) (broadcastInDim S16384 ![] bcast_S_S16384),
    TRef.binary (TRef.of (T := ⟨S16384, .i32⟩) main_v58) (TRef.of (T := ⟨S16384, .i32⟩) main_call4_v0) (TRef.of (T := ⟨S16384, .i1⟩) main_call4_v1) (cmpi .slt),
    TRef.nullary (TRef.of (T := ⟨S_, .i32⟩) main_call4_c_0) (constantI S_ 32 1024#32),
    TRef.unary (TRef.of (T := ⟨S_, .i32⟩) main_call4_c_0) (TRef.of (T := ⟨S16384, .i32⟩) main_call4_v2) (broadcastInDim S16384 ![] bcast_S_S16384),
    TRef.binary (TRef.of (T := ⟨S16384, .i32⟩) main_v58) (TRef.of (T := ⟨S16384, .i32⟩) main_call4_v2) (TRef.of (T := ⟨S16384, .i32⟩) main_call4_v3) addi,
    TRef.ternary (TRef.of (T := ⟨S16384, .i1⟩) main_call4_v1) (TRef.of (T := ⟨S16384, .i32⟩) main_call4_v3) (TRef.of (T := ⟨S16384, .i32⟩) main_v58) (TRef.of (T := ⟨S16384, .i32⟩) main_call4_v4) select,
    TRef.unary (TRef.of (T := ⟨S16384, .i32⟩) main_call4_v4) (TRef.of (T := ⟨S16384x1, .i32⟩) main_call4_v5) (broadcastInDim S16384x1 ![0] bcast_S16384_S16384x1_0),
    TRef.nullary (TRef.of (T := ⟨S1, .i32⟩) main_call4_c_1) (constantI S1 32 1023#32),
    TRef.nullary (TRef.of (T := ⟨S_, .i32⟩) main_call4_c_2) (constantI S_ 32 0#32),
    TRef.unary (TRef.of (T := ⟨S_, .i32⟩) main_call4_c_2) (TRef.of (T := ⟨S16384x1, .i32⟩) main_call4_v6) (broadcastInDim S16384x1 ![] bcast_S_S16384x1),
    TRef.binary (TRef.of (T := ⟨S16384x1, .i32⟩) main_call4_v5) (TRef.of (T := ⟨S16384x1, .i32⟩) main_call4_v6) (TRef.of (T := ⟨S16384x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S16384x1, .i32⟩) main_call4_v9) (broadcastInDim S16384x1 ![0, 1] bcast_S1x1_S16384x1_0_1),
    TRef.binary (TRef.of (T := ⟨S16384x1, .i32⟩) main_call4_v5) (TRef.of (T := ⟨S16384x1, .i32⟩) main_call4_v9) (TRef.of (T := ⟨S16384x1, .i1⟩) main_call4_v10) (cmpi .sle),
    TRef.binary (TRef.of (T := ⟨S16384x1, .i1⟩) main_call4_v7) (TRef.of (T := ⟨S16384x1, .i1⟩) main_call4_v10) (TRef.of (T := ⟨S16384x1, .i1⟩) main_call4_v11) andi,
    TRef.nullary (TRef.of (T := ⟨S_, .i1⟩) main_call4_c_3) (constantI S_ 1 1#1),
    TRef.binary (TRef.of (T := ⟨S16384x1, .i1⟩) main_call4_v11) (TRef.of (T := ⟨S_, .i1⟩) main_call4_c_3) (TRef.of (T := ⟨S16384, .i1⟩) main_call4_v12) (fun x v => Host.reduce IntOp.andi x v reducesTo_S16384x1_S16384_d1 h_S_),
    TRef.binary (TRef.of (T := ⟨S1024x64, .f32⟩) main_v43) (TRef.of (T := ⟨S16384x1, .i32⟩) main_call4_v5) (TRef.of (T := ⟨S16384x64, .f32⟩) main_call4_v13) (fun x i => Host.gather gather_S1024x64_S16384x1_S16384x64_1_0_n_n_0_1_164 x i),
    TRef.unary (TRef.of (T := ⟨S16384, .i1⟩) main_call4_v12) (TRef.of (T := ⟨S16384x64, .i1⟩) main_call4_v14) (broadcastInDim S16384x64 ![0] bcast_S16384_S16384x64_0),
    TRef.nullary (TRef.of (T := ⟨S_, .f32⟩) main_call4_cst) (constant S_ .f32 0x7FC00000#32),
    TRef.unary (TRef.of (T := ⟨S_, .f32⟩) main_call4_cst) (TRef.of (T := ⟨S16384x64, .f32⟩) main_call4_v15) (broadcastInDim S16384x64 ![] bcast_S_S16384x64),
    TRef.ternary (TRef.of (T := ⟨S16384x64, .i1⟩) main_call4_v14) (TRef.of (T := ⟨S16384x64, .f32⟩) main_call4_v13) (TRef.of (T := ⟨S16384x64, .f32⟩) main_call4_v15) (TRef.of (T := ⟨S16384x64, .f32⟩) main_v59) select ]

/-- The operations of the second level's losses, straight-through value and residual. -/
def opsU1 : List (HloOp τ sig (Elt F)) :=
  [ binary main_v59 main_v41 main_v60 (subf : (⟨S16384x64, .f32⟩ : BufTy).Contents (Elt F) → (⟨S16384x64, .f32⟩ : BufTy).Contents (Elt F) → (⟨S16384x64, .f32⟩ : BufTy).Contents (Elt F)),
    binary main_v60 main_v60 main_v61 (mulf : (⟨S16384x64, .f32⟩ : BufTy).Contents (Elt F) → (⟨S16384x64, .f32⟩ : BufTy).Contents (Elt F) → (⟨S16384x64, .f32⟩ : BufTy).Contents (Elt F)),
    nullary main_cst_12 (constant S_ .f32 0x00000000#32),
    binary main_v61 main_cst_12 main_v62 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_13 (constant S_ .f32 0x49800000#32),
    binary main_v62 main_cst_13 main_v63 (Host.divf : (⟨S_, .f32⟩ : BufTy).Contents (Elt F) → (⟨S_, .f32⟩ : BufTy).Contents (Elt F) → (⟨S_, .f32⟩ : BufTy).Contents (Elt F)),
    binary main_v59 main_v41 main_v64 (subf : (⟨S16384x64, .f32⟩ : BufTy).Contents (Elt F) → (⟨S16384x64, .f32⟩ : BufTy).Contents (Elt F) → (⟨S16384x64, .f32⟩ : BufTy).Contents (Elt F)),
    binary main_v64 main_v64 main_v65 (mulf : (⟨S16384x64, .f32⟩ : BufTy).Contents (Elt F) → (⟨S16384x64, .f32⟩ : BufTy).Contents (Elt F) → (⟨S16384x64, .f32⟩ : BufTy).Contents (Elt F)),
    nullary main_cst_14 (constant S_ .f32 0x00000000#32),
    binary main_v65 main_cst_14 main_v66 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_15 (constant S_ .f32 0x49800000#32),
    binary main_v66 main_cst_15 main_v67 (Host.divf : (⟨S_, .f32⟩ : BufTy).Contents (Elt F) → (⟨S_, .f32⟩ : BufTy).Contents (Elt F) → (⟨S_, .f32⟩ : BufTy).Contents (Elt F)),
    binary main_v36 main_v63 main_v68 (addf : (⟨S_, .f32⟩ : BufTy).Contents (Elt F) → (⟨S_, .f32⟩ : BufTy).Contents (Elt F) → (⟨S_, .f32⟩ : BufTy).Contents (Elt F)),
    binary main_v37 main_v67 main_v69 (addf : (⟨S_, .f32⟩ : BufTy).Contents (Elt F) → (⟨S_, .f32⟩ : BufTy).Contents (Elt F) → (⟨S_, .f32⟩ : BufTy).Contents (Elt F)),
    binary main_v59 main_v41 main_v70 (subf : (⟨S16384x64, .f32⟩ : BufTy).Contents (Elt F) → (⟨S16384x64, .f32⟩ : BufTy).Contents (Elt F) → (⟨S16384x64, .f32⟩ : BufTy).Contents (Elt F)),
    binary main_v41 main_v70 main_v71 (addf : (⟨S16384x64, .f32⟩ : BufTy).Contents (Elt F) → (⟨S16384x64, .f32⟩ : BufTy).Contents (Elt F) → (⟨S16384x64, .f32⟩ : BufTy).Contents (Elt F)),
    binary main_v40 main_v71 main_v72 (addf : (⟨S16384x64, .f32⟩ : BufTy).Contents (Elt F) → (⟨S16384x64, .f32⟩ : BufTy).Contents (Elt F) → (⟨S16384x64, .f32⟩ : BufTy).Contents (Elt F)),
    binary main_v41 main_v71 main_v73 (subf : (⟨S16384x64, .f32⟩ : BufTy).Contents (Elt F) → (⟨S16384x64, .f32⟩ : BufTy).Contents (Elt F) → (⟨S16384x64, .f32⟩ : BufTy).Contents (Elt F)) ]

/-- The operations of the third level's codebook and distances. -/
def opsD2 : List (HloOp τ sig (Elt F)) :=
  [ unary main_arg5 main_v74 ((extractStridedSlice S1x1024x64 ![2, 0, 0] · slices_S4x1024x64_S1x1024x64_2_0_0) : (⟨S4x1024x64, .f32⟩ : BufTy).Contents (Elt F) → (⟨S1x1024x64, .f32⟩ : BufTy).Contents (Elt F)),
    reshape main_v74 main_v75 (rfl : (.f32 : EltTy) = .f32) shapeCasts_S1x1024x64_S1024x64,
    binary main_v73 main_v73 main_v76 (mulf : (⟨S16384x64, .f32⟩ : BufTy).Contents (Elt F) → (⟨S16384x64, .f32⟩ : BufTy).Contents (Elt F) → (⟨S16384x64, .f32⟩ : BufTy).Contents (Elt F)),
    nullary main_cst_16 (constant S_ .f32 0x00000000#32),
    binary main_v76 main_cst_16 main_v77 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v77 main_v78 (broadcastInDim S16384x1 ![0] bcast_S16384_S16384x1_0 : (⟨S16384, .f32⟩ : BufTy).Contents (Elt F) → (⟨S16384x1, .f32⟩ : BufTy).Contents (Elt F)),
    binary main_v75 main_v75 main_v79 (mulf : (⟨S1024x64, .f32⟩ : BufTy).Contents (Elt F) → (⟨S1024x64, .f32⟩ : BufTy).Contents (Elt F) → (⟨S1024x64, .f32⟩ : BufTy).Contents (Elt F)),
    nullary main_cst_17 (constant S_ .f32 0x00000000#32),
    binary main_v79 main_cst_17 main_v80 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v80 main_v81 (broadcastInDim S1x1024 ![1] bcast_S1024_S1x1024_1 : (⟨S1024, .f32⟩ : BufTy).Contents (Elt F) → (⟨S1x1024, .f32⟩ : BufTy).Contents (Elt F)),
    unary main_v78 main_v82 (broadcastInDim S16384x1024 ![0, 1] bcast_S16384x1_S16384x1024_0_1 : (⟨S16384x1, .f32⟩ : BufTy).Contents (Elt F) → (⟨S16384x1024, .f32⟩ : BufTy).Contents (Elt F)),
    unary main_v81 main_v83 (broadcastInDim S16384x1024 ![0, 1] bcast_S1x1024_S16384x1024_0_1 : (⟨S1x1024, .f32⟩ : BufTy).Contents (Elt F) → (⟨S16384x1024, .f32⟩ : BufTy).Contents (Elt F)),
    binary main_v82 main_v83 main_v84 (addf : (⟨S16384x1024, .f32⟩ : BufTy).Contents (Elt F) → (⟨S16384x1024, .f32⟩ : BufTy).Contents (Elt F) → (⟨S16384x1024, .f32⟩ : BufTy).Contents (Elt F)),
    unary main_v75 main_v85 ((transpose S64x1024 [1, 0] · transposes_S1024x64_S64x1024_1_0) : (⟨S1024x64, .f32⟩ : BufTy).Contents (Elt F) → (⟨S64x1024, .f32⟩ : BufTy).Contents (Elt F)),
    binary main_v73 main_v85 main_v86 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_18 (constant S_ .f32 0x40000000#32),
    unary main_cst_18 main_v87 (broadcastInDim S16384x1024 ![] bcast_S_S16384x1024 : (⟨S_, .f32⟩ : BufTy).Contents (Elt F) → (⟨S16384x1024, .f32⟩ : BufTy).Contents (Elt F)),
    binary main_v87 main_v86 main_v88 (mulf : (⟨S16384x1024, .f32⟩ : BufTy).Contents (Elt F) → (⟨S16384x1024, .f32⟩ : BufTy).Contents (Elt F) → (⟨S16384x1024, .f32⟩ : BufTy).Contents (Elt F)),
    binary main_v84 main_v88 main_v89 (subf : (⟨S16384x1024, .f32⟩ : BufTy).Contents (Elt F) → (⟨S16384x1024, .f32⟩ : BufTy).Contents (Elt F) → (⟨S16384x1024, .f32⟩ : BufTy).Contents (Elt F)) ]

/-- The operations of the third level's nearest entry and its row of the codebook. -/
def opsM2 : List (HloOp τ sig (Elt F)) :=
  [ TRef.nullary (TRef.of (T := ⟨S16384x1024, .i32⟩) main_call5_v0) (iotaInDim S16384x1024 32 1),
    TRef.nullary (TRef.of (T := ⟨S_, .f32⟩) main_call5_cst) (constant S_ .f32 0x7F800000#32),
    TRef.nullary (TRef.of (T := ⟨S_, .i32⟩) main_call5_c) (constantI S_ 32 0#32),
    TRef.quaternary (TRef.of (T := ⟨S16384x1024, .f32⟩) main_v89) (TRef.of (T := ⟨S16384x1024, .i32⟩) main_call5_v0) (TRef.of (T := ⟨S_, .f32⟩) main_call5_cst) (TRef.of (T := ⟨S_, .i32⟩) main_call5_c) (TRef.of (T := ⟨S16384, .f32⟩) main_call5_v1_0) (fun x y u v j => (Host.argReduce reducer_argmin_f32_i32 x y u v reducesTo_S16384x1024_S16384_d1 h_S_ j).1),
    TRef.quaternary (TRef.of (T := ⟨S16384x1024, .f32⟩) main_v89) (TRef.of (T := ⟨S16384x1024, .i32⟩) main_call5_v0) (TRef.of (T := ⟨S_, .f32⟩) main_call5_cst) (TRef.of (T := ⟨S_, .i32⟩) main_call5_c) (TRef.of (T := ⟨S16384, .i32⟩) main_v90) (fun x y u v j => (Host.argReduce reducer_argmin_f32_i32 x y u v reducesTo_S16384x1024_S16384_d1 h_S_ j).2),
    TRef.nullary (TRef.of (T := ⟨S_, .i32⟩) main_call6_c) (constantI S_ 32 0#32),
    TRef.unary (TRef.of (T := ⟨S_, .i32⟩) main_call6_c) (TRef.of (T := ⟨S16384, .i32⟩) main_call6_v0) (broadcastInDim S16384 ![] bcast_S_S16384),
    TRef.binary (TRef.of (T := ⟨S16384, .i32⟩) main_v90) (TRef.of (T := ⟨S16384, .i32⟩) main_call6_v0) (TRef.of (T := ⟨S16384, .i1⟩) main_call6_v1) (cmpi .slt),
    TRef.nullary (TRef.of (T := ⟨S_, .i32⟩) main_call6_c_0) (constantI S_ 32 1024#32),
    TRef.unary (TRef.of (T := ⟨S_, .i32⟩) main_call6_c_0) (TRef.of (T := ⟨S16384, .i32⟩) main_call6_v2) (broadcastInDim S16384 ![] bcast_S_S16384),
    TRef.binary (TRef.of (T := ⟨S16384, .i32⟩) main_v90) (TRef.of (T := ⟨S16384, .i32⟩) main_call6_v2) (TRef.of (T := ⟨S16384, .i32⟩) main_call6_v3) addi,
    TRef.ternary (TRef.of (T := ⟨S16384, .i1⟩) main_call6_v1) (TRef.of (T := ⟨S16384, .i32⟩) main_call6_v3) (TRef.of (T := ⟨S16384, .i32⟩) main_v90) (TRef.of (T := ⟨S16384, .i32⟩) main_call6_v4) select,
    TRef.unary (TRef.of (T := ⟨S16384, .i32⟩) main_call6_v4) (TRef.of (T := ⟨S16384x1, .i32⟩) main_call6_v5) (broadcastInDim S16384x1 ![0] bcast_S16384_S16384x1_0),
    TRef.nullary (TRef.of (T := ⟨S1, .i32⟩) main_call6_c_1) (constantI S1 32 1023#32),
    TRef.nullary (TRef.of (T := ⟨S_, .i32⟩) main_call6_c_2) (constantI S_ 32 0#32),
    TRef.unary (TRef.of (T := ⟨S_, .i32⟩) main_call6_c_2) (TRef.of (T := ⟨S16384x1, .i32⟩) main_call6_v6) (broadcastInDim S16384x1 ![] bcast_S_S16384x1),
    TRef.binary (TRef.of (T := ⟨S16384x1, .i32⟩) main_call6_v5) (TRef.of (T := ⟨S16384x1, .i32⟩) main_call6_v6) (TRef.of (T := ⟨S16384x1, .i1⟩) main_call6_v7) (cmpi .sge),
    TRef.unary (TRef.of (T := ⟨S1, .i32⟩) main_call6_c_1) (TRef.of (T := ⟨S1x1, .i32⟩) main_call6_v8) (broadcastInDim S1x1 ![1] bcast_S1_S1x1_1),
    TRef.unary (TRef.of (T := ⟨S1x1, .i32⟩) main_call6_v8) (TRef.of (T := ⟨S16384x1, .i32⟩) main_call6_v9) (broadcastInDim S16384x1 ![0, 1] bcast_S1x1_S16384x1_0_1),
    TRef.binary (TRef.of (T := ⟨S16384x1, .i32⟩) main_call6_v5) (TRef.of (T := ⟨S16384x1, .i32⟩) main_call6_v9) (TRef.of (T := ⟨S16384x1, .i1⟩) main_call6_v10) (cmpi .sle),
    TRef.binary (TRef.of (T := ⟨S16384x1, .i1⟩) main_call6_v7) (TRef.of (T := ⟨S16384x1, .i1⟩) main_call6_v10) (TRef.of (T := ⟨S16384x1, .i1⟩) main_call6_v11) andi,
    TRef.nullary (TRef.of (T := ⟨S_, .i1⟩) main_call6_c_3) (constantI S_ 1 1#1),
    TRef.binary (TRef.of (T := ⟨S16384x1, .i1⟩) main_call6_v11) (TRef.of (T := ⟨S_, .i1⟩) main_call6_c_3) (TRef.of (T := ⟨S16384, .i1⟩) main_call6_v12) (fun x v => Host.reduce IntOp.andi x v reducesTo_S16384x1_S16384_d1 h_S_),
    TRef.binary (TRef.of (T := ⟨S1024x64, .f32⟩) main_v75) (TRef.of (T := ⟨S16384x1, .i32⟩) main_call6_v5) (TRef.of (T := ⟨S16384x64, .f32⟩) main_call6_v13) (fun x i => Host.gather gather_S1024x64_S16384x1_S16384x64_1_0_n_n_0_1_164 x i),
    TRef.unary (TRef.of (T := ⟨S16384, .i1⟩) main_call6_v12) (TRef.of (T := ⟨S16384x64, .i1⟩) main_call6_v14) (broadcastInDim S16384x64 ![0] bcast_S16384_S16384x64_0),
    TRef.nullary (TRef.of (T := ⟨S_, .f32⟩) main_call6_cst) (constant S_ .f32 0x7FC00000#32),
    TRef.unary (TRef.of (T := ⟨S_, .f32⟩) main_call6_cst) (TRef.of (T := ⟨S16384x64, .f32⟩) main_call6_v15) (broadcastInDim S16384x64 ![] bcast_S_S16384x64),
    TRef.ternary (TRef.of (T := ⟨S16384x64, .i1⟩) main_call6_v14) (TRef.of (T := ⟨S16384x64, .f32⟩) main_call6_v13) (TRef.of (T := ⟨S16384x64, .f32⟩) main_call6_v15) (TRef.of (T := ⟨S16384x64, .f32⟩) main_v91) select ]

/-- The operations of the third level's losses, straight-through value and residual (beginning). -/
def opsU2a : List (HloOp τ sig (Elt F)) :=
  [ binary main_v91 main_v73 main_v92 (subf : (⟨S16384x64, .f32⟩ : BufTy).Contents (Elt F) → (⟨S16384x64, .f32⟩ : BufTy).Contents (Elt F) → (⟨S16384x64, .f32⟩ : BufTy).Contents (Elt F)),
    binary main_v92 main_v92 main_v93 (mulf : (⟨S16384x64, .f32⟩ : BufTy).Contents (Elt F) → (⟨S16384x64, .f32⟩ : BufTy).Contents (Elt F) → (⟨S16384x64, .f32⟩ : BufTy).Contents (Elt F)),
    nullary main_cst_19 (constant S_ .f32 0x00000000#32),
    binary main_v93 main_cst_19 main_v94 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_20 (constant S_ .f32 0x49800000#32),
    binary main_v94 main_cst_20 main_v95 (Host.divf : (⟨S_, .f32⟩ : BufTy).Contents (Elt F) → (⟨S_, .f32⟩ : BufTy).Contents (Elt F) → (⟨S_, .f32⟩ : BufTy).Contents (Elt F)),
    binary main_v91 main_v73 main_v96 (subf : (⟨S16384x64, .f32⟩ : BufTy).Contents (Elt F) → (⟨S16384x64, .f32⟩ : BufTy).Contents (Elt F) → (⟨S16384x64, .f32⟩ : BufTy).Contents (Elt F)),
    binary main_v96 main_v96 main_v97 (mulf : (⟨S16384x64, .f32⟩ : BufTy).Contents (Elt F) → (⟨S16384x64, .f32⟩ : BufTy).Contents (Elt F) → (⟨S16384x64, .f32⟩ : BufTy).Contents (Elt F)) ]

/-- The operations of the third level's losses, straight-through value and residual (rest). -/
def opsU2b : List (HloOp τ sig (Elt F)) :=
  [ nullary main_cst_21 (constant S_ .f32 0x00000000#32),
    binary main_v97 main_cst_21 main_v98 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_22 (constant S_ .f32 0x49800000#32),
    binary main_v98 main_cst_22 main_v99 (Host.divf : (⟨S_, .f32⟩ : BufTy).Contents (Elt F) → (⟨S_, .f32⟩ : BufTy).Contents (Elt F) → (⟨S_, .f32⟩ : BufTy).Contents (Elt F)),
    binary main_v68 main_v95 main_v100 (addf : (⟨S_, .f32⟩ : BufTy).Contents (Elt F) → (⟨S_, .f32⟩ : BufTy).Contents (Elt F) → (⟨S_, .f32⟩ : BufTy).Contents (Elt F)),
    binary main_v69 main_v99 main_v101 (addf : (⟨S_, .f32⟩ : BufTy).Contents (Elt F) → (⟨S_, .f32⟩ : BufTy).Contents (Elt F) → (⟨S_, .f32⟩ : BufTy).Contents (Elt F)),
    binary main_v91 main_v73 main_v102 (subf : (⟨S16384x64, .f32⟩ : BufTy).Contents (Elt F) → (⟨S16384x64, .f32⟩ : BufTy).Contents (Elt F) → (⟨S16384x64, .f32⟩ : BufTy).Contents (Elt F)),
    binary main_v73 main_v102 main_v103 (addf : (⟨S16384x64, .f32⟩ : BufTy).Contents (Elt F) → (⟨S16384x64, .f32⟩ : BufTy).Contents (Elt F) → (⟨S16384x64, .f32⟩ : BufTy).Contents (Elt F)),
    binary main_v72 main_v103 main_v104 (addf : (⟨S16384x64, .f32⟩ : BufTy).Contents (Elt F) → (⟨S16384x64, .f32⟩ : BufTy).Contents (Elt F) → (⟨S16384x64, .f32⟩ : BufTy).Contents (Elt F)),
    binary main_v73 main_v103 main_v105 (subf : (⟨S16384x64, .f32⟩ : BufTy).Contents (Elt F) → (⟨S16384x64, .f32⟩ : BufTy).Contents (Elt F) → (⟨S16384x64, .f32⟩ : BufTy).Contents (Elt F)) ]

/-- The operations of the fourth level's codebook and distances. -/
def opsD3 : List (HloOp τ sig (Elt F)) :=
  [ unary main_arg5 main_v106 ((extractStridedSlice S1x1024x64 ![3, 0, 0] · slices_S4x1024x64_S1x1024x64_3_0_0) : (⟨S4x1024x64, .f32⟩ : BufTy).Contents (Elt F) → (⟨S1x1024x64, .f32⟩ : BufTy).Contents (Elt F)),
    reshape main_v106 main_v107 (rfl : (.f32 : EltTy) = .f32) shapeCasts_S1x1024x64_S1024x64,
    binary main_v105 main_v105 main_v108 (mulf : (⟨S16384x64, .f32⟩ : BufTy).Contents (Elt F) → (⟨S16384x64, .f32⟩ : BufTy).Contents (Elt F) → (⟨S16384x64, .f32⟩ : BufTy).Contents (Elt F)),
    nullary main_cst_23 (constant S_ .f32 0x00000000#32),
    binary main_v108 main_cst_23 main_v109 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v109 main_v110 (broadcastInDim S16384x1 ![0] bcast_S16384_S16384x1_0 : (⟨S16384, .f32⟩ : BufTy).Contents (Elt F) → (⟨S16384x1, .f32⟩ : BufTy).Contents (Elt F)),
    binary main_v107 main_v107 main_v111 (mulf : (⟨S1024x64, .f32⟩ : BufTy).Contents (Elt F) → (⟨S1024x64, .f32⟩ : BufTy).Contents (Elt F) → (⟨S1024x64, .f32⟩ : BufTy).Contents (Elt F)),
    nullary main_cst_24 (constant S_ .f32 0x00000000#32),
    binary main_v111 main_cst_24 main_v112 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v112 main_v113 (broadcastInDim S1x1024 ![1] bcast_S1024_S1x1024_1 : (⟨S1024, .f32⟩ : BufTy).Contents (Elt F) → (⟨S1x1024, .f32⟩ : BufTy).Contents (Elt F)),
    unary main_v110 main_v114 (broadcastInDim S16384x1024 ![0, 1] bcast_S16384x1_S16384x1024_0_1 : (⟨S16384x1, .f32⟩ : BufTy).Contents (Elt F) → (⟨S16384x1024, .f32⟩ : BufTy).Contents (Elt F)),
    unary main_v113 main_v115 (broadcastInDim S16384x1024 ![0, 1] bcast_S1x1024_S16384x1024_0_1 : (⟨S1x1024, .f32⟩ : BufTy).Contents (Elt F) → (⟨S16384x1024, .f32⟩ : BufTy).Contents (Elt F)),
    binary main_v114 main_v115 main_v116 (addf : (⟨S16384x1024, .f32⟩ : BufTy).Contents (Elt F) → (⟨S16384x1024, .f32⟩ : BufTy).Contents (Elt F) → (⟨S16384x1024, .f32⟩ : BufTy).Contents (Elt F)),
    unary main_v107 main_v117 ((transpose S64x1024 [1, 0] · transposes_S1024x64_S64x1024_1_0) : (⟨S1024x64, .f32⟩ : BufTy).Contents (Elt F) → (⟨S64x1024, .f32⟩ : BufTy).Contents (Elt F)),
    binary main_v105 main_v117 main_v118 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_25 (constant S_ .f32 0x40000000#32),
    unary main_cst_25 main_v119 (broadcastInDim S16384x1024 ![] bcast_S_S16384x1024 : (⟨S_, .f32⟩ : BufTy).Contents (Elt F) → (⟨S16384x1024, .f32⟩ : BufTy).Contents (Elt F)),
    binary main_v119 main_v118 main_v120 (mulf : (⟨S16384x1024, .f32⟩ : BufTy).Contents (Elt F) → (⟨S16384x1024, .f32⟩ : BufTy).Contents (Elt F) → (⟨S16384x1024, .f32⟩ : BufTy).Contents (Elt F)),
    binary main_v116 main_v120 main_v121 (subf : (⟨S16384x1024, .f32⟩ : BufTy).Contents (Elt F) → (⟨S16384x1024, .f32⟩ : BufTy).Contents (Elt F) → (⟨S16384x1024, .f32⟩ : BufTy).Contents (Elt F)) ]

/-- The operations of the fourth level's nearest entry and its row of the codebook. -/
def opsM3 : List (HloOp τ sig (Elt F)) :=
  [ TRef.nullary (TRef.of (T := ⟨S16384x1024, .i32⟩) main_call7_v0) (iotaInDim S16384x1024 32 1),
    TRef.nullary (TRef.of (T := ⟨S_, .f32⟩) main_call7_cst) (constant S_ .f32 0x7F800000#32),
    TRef.nullary (TRef.of (T := ⟨S_, .i32⟩) main_call7_c) (constantI S_ 32 0#32),
    TRef.quaternary (TRef.of (T := ⟨S16384x1024, .f32⟩) main_v121) (TRef.of (T := ⟨S16384x1024, .i32⟩) main_call7_v0) (TRef.of (T := ⟨S_, .f32⟩) main_call7_cst) (TRef.of (T := ⟨S_, .i32⟩) main_call7_c) (TRef.of (T := ⟨S16384, .f32⟩) main_call7_v1_0) (fun x y u v j => (Host.argReduce reducer_argmin_f32_i32 x y u v reducesTo_S16384x1024_S16384_d1 h_S_ j).1),
    TRef.quaternary (TRef.of (T := ⟨S16384x1024, .f32⟩) main_v121) (TRef.of (T := ⟨S16384x1024, .i32⟩) main_call7_v0) (TRef.of (T := ⟨S_, .f32⟩) main_call7_cst) (TRef.of (T := ⟨S_, .i32⟩) main_call7_c) (TRef.of (T := ⟨S16384, .i32⟩) main_v122) (fun x y u v j => (Host.argReduce reducer_argmin_f32_i32 x y u v reducesTo_S16384x1024_S16384_d1 h_S_ j).2),
    TRef.nullary (TRef.of (T := ⟨S_, .i32⟩) main_call8_c) (constantI S_ 32 0#32),
    TRef.unary (TRef.of (T := ⟨S_, .i32⟩) main_call8_c) (TRef.of (T := ⟨S16384, .i32⟩) main_call8_v0) (broadcastInDim S16384 ![] bcast_S_S16384),
    TRef.binary (TRef.of (T := ⟨S16384, .i32⟩) main_v122) (TRef.of (T := ⟨S16384, .i32⟩) main_call8_v0) (TRef.of (T := ⟨S16384, .i1⟩) main_call8_v1) (cmpi .slt),
    TRef.nullary (TRef.of (T := ⟨S_, .i32⟩) main_call8_c_0) (constantI S_ 32 1024#32),
    TRef.unary (TRef.of (T := ⟨S_, .i32⟩) main_call8_c_0) (TRef.of (T := ⟨S16384, .i32⟩) main_call8_v2) (broadcastInDim S16384 ![] bcast_S_S16384),
    TRef.binary (TRef.of (T := ⟨S16384, .i32⟩) main_v122) (TRef.of (T := ⟨S16384, .i32⟩) main_call8_v2) (TRef.of (T := ⟨S16384, .i32⟩) main_call8_v3) addi,
    TRef.ternary (TRef.of (T := ⟨S16384, .i1⟩) main_call8_v1) (TRef.of (T := ⟨S16384, .i32⟩) main_call8_v3) (TRef.of (T := ⟨S16384, .i32⟩) main_v122) (TRef.of (T := ⟨S16384, .i32⟩) main_call8_v4) select,
    TRef.unary (TRef.of (T := ⟨S16384, .i32⟩) main_call8_v4) (TRef.of (T := ⟨S16384x1, .i32⟩) main_call8_v5) (broadcastInDim S16384x1 ![0] bcast_S16384_S16384x1_0),
    TRef.nullary (TRef.of (T := ⟨S1, .i32⟩) main_call8_c_1) (constantI S1 32 1023#32),
    TRef.nullary (TRef.of (T := ⟨S_, .i32⟩) main_call8_c_2) (constantI S_ 32 0#32),
    TRef.unary (TRef.of (T := ⟨S_, .i32⟩) main_call8_c_2) (TRef.of (T := ⟨S16384x1, .i32⟩) main_call8_v6) (broadcastInDim S16384x1 ![] bcast_S_S16384x1),
    TRef.binary (TRef.of (T := ⟨S16384x1, .i32⟩) main_call8_v5) (TRef.of (T := ⟨S16384x1, .i32⟩) main_call8_v6) (TRef.of (T := ⟨S16384x1, .i1⟩) main_call8_v7) (cmpi .sge),
    TRef.unary (TRef.of (T := ⟨S1, .i32⟩) main_call8_c_1) (TRef.of (T := ⟨S1x1, .i32⟩) main_call8_v8) (broadcastInDim S1x1 ![1] bcast_S1_S1x1_1),
    TRef.unary (TRef.of (T := ⟨S1x1, .i32⟩) main_call8_v8) (TRef.of (T := ⟨S16384x1, .i32⟩) main_call8_v9) (broadcastInDim S16384x1 ![0, 1] bcast_S1x1_S16384x1_0_1),
    TRef.binary (TRef.of (T := ⟨S16384x1, .i32⟩) main_call8_v5) (TRef.of (T := ⟨S16384x1, .i32⟩) main_call8_v9) (TRef.of (T := ⟨S16384x1, .i1⟩) main_call8_v10) (cmpi .sle),
    TRef.binary (TRef.of (T := ⟨S16384x1, .i1⟩) main_call8_v7) (TRef.of (T := ⟨S16384x1, .i1⟩) main_call8_v10) (TRef.of (T := ⟨S16384x1, .i1⟩) main_call8_v11) andi,
    TRef.nullary (TRef.of (T := ⟨S_, .i1⟩) main_call8_c_3) (constantI S_ 1 1#1),
    TRef.binary (TRef.of (T := ⟨S16384x1, .i1⟩) main_call8_v11) (TRef.of (T := ⟨S_, .i1⟩) main_call8_c_3) (TRef.of (T := ⟨S16384, .i1⟩) main_call8_v12) (fun x v => Host.reduce IntOp.andi x v reducesTo_S16384x1_S16384_d1 h_S_),
    TRef.binary (TRef.of (T := ⟨S1024x64, .f32⟩) main_v107) (TRef.of (T := ⟨S16384x1, .i32⟩) main_call8_v5) (TRef.of (T := ⟨S16384x64, .f32⟩) main_call8_v13) (fun x i => Host.gather gather_S1024x64_S16384x1_S16384x64_1_0_n_n_0_1_164 x i),
    TRef.unary (TRef.of (T := ⟨S16384, .i1⟩) main_call8_v12) (TRef.of (T := ⟨S16384x64, .i1⟩) main_call8_v14) (broadcastInDim S16384x64 ![0] bcast_S16384_S16384x64_0),
    TRef.nullary (TRef.of (T := ⟨S_, .f32⟩) main_call8_cst) (constant S_ .f32 0x7FC00000#32),
    TRef.unary (TRef.of (T := ⟨S_, .f32⟩) main_call8_cst) (TRef.of (T := ⟨S16384x64, .f32⟩) main_call8_v15) (broadcastInDim S16384x64 ![] bcast_S_S16384x64),
    TRef.ternary (TRef.of (T := ⟨S16384x64, .i1⟩) main_call8_v14) (TRef.of (T := ⟨S16384x64, .f32⟩) main_call8_v13) (TRef.of (T := ⟨S16384x64, .f32⟩) main_call8_v15) (TRef.of (T := ⟨S16384x64, .f32⟩) main_v123) select ]

/-- The operations of the fourth level's losses, straight-through value and residual. -/
def opsU3 : List (HloOp τ sig (Elt F)) :=
  [ binary main_v123 main_v105 main_v124 (subf : (⟨S16384x64, .f32⟩ : BufTy).Contents (Elt F) → (⟨S16384x64, .f32⟩ : BufTy).Contents (Elt F) → (⟨S16384x64, .f32⟩ : BufTy).Contents (Elt F)),
    binary main_v124 main_v124 main_v125 (mulf : (⟨S16384x64, .f32⟩ : BufTy).Contents (Elt F) → (⟨S16384x64, .f32⟩ : BufTy).Contents (Elt F) → (⟨S16384x64, .f32⟩ : BufTy).Contents (Elt F)),
    nullary main_cst_26 (constant S_ .f32 0x00000000#32),
    binary main_v125 main_cst_26 main_v126 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_27 (constant S_ .f32 0x49800000#32),
    binary main_v126 main_cst_27 main_v127 (Host.divf : (⟨S_, .f32⟩ : BufTy).Contents (Elt F) → (⟨S_, .f32⟩ : BufTy).Contents (Elt F) → (⟨S_, .f32⟩ : BufTy).Contents (Elt F)),
    binary main_v123 main_v105 main_v128 (subf : (⟨S16384x64, .f32⟩ : BufTy).Contents (Elt F) → (⟨S16384x64, .f32⟩ : BufTy).Contents (Elt F) → (⟨S16384x64, .f32⟩ : BufTy).Contents (Elt F)),
    binary main_v128 main_v128 main_v129 (mulf : (⟨S16384x64, .f32⟩ : BufTy).Contents (Elt F) → (⟨S16384x64, .f32⟩ : BufTy).Contents (Elt F) → (⟨S16384x64, .f32⟩ : BufTy).Contents (Elt F)),
    nullary main_cst_28 (constant S_ .f32 0x00000000#32),
    binary main_v129 main_cst_28 main_v130 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_29 (constant S_ .f32 0x49800000#32),
    binary main_v130 main_cst_29 main_v131 (Host.divf : (⟨S_, .f32⟩ : BufTy).Contents (Elt F) → (⟨S_, .f32⟩ : BufTy).Contents (Elt F) → (⟨S_, .f32⟩ : BufTy).Contents (Elt F)),
    binary main_v100 main_v127 main_v132 (addf : (⟨S_, .f32⟩ : BufTy).Contents (Elt F) → (⟨S_, .f32⟩ : BufTy).Contents (Elt F) → (⟨S_, .f32⟩ : BufTy).Contents (Elt F)),
    binary main_v101 main_v131 main_v133 (addf : (⟨S_, .f32⟩ : BufTy).Contents (Elt F) → (⟨S_, .f32⟩ : BufTy).Contents (Elt F) → (⟨S_, .f32⟩ : BufTy).Contents (Elt F)),
    binary main_v123 main_v105 main_v134 (subf : (⟨S16384x64, .f32⟩ : BufTy).Contents (Elt F) → (⟨S16384x64, .f32⟩ : BufTy).Contents (Elt F) → (⟨S16384x64, .f32⟩ : BufTy).Contents (Elt F)),
    binary main_v105 main_v134 main_v135 (addf : (⟨S16384x64, .f32⟩ : BufTy).Contents (Elt F) → (⟨S16384x64, .f32⟩ : BufTy).Contents (Elt F) → (⟨S16384x64, .f32⟩ : BufTy).Contents (Elt F)),
    binary main_v104 main_v135 main_v136 (addf : (⟨S16384x64, .f32⟩ : BufTy).Contents (Elt F) → (⟨S16384x64, .f32⟩ : BufTy).Contents (Elt F) → (⟨S16384x64, .f32⟩ : BufTy).Contents (Elt F)),
    binary main_v105 main_v135 main_v137 (subf : (⟨S16384x64, .f32⟩ : BufTy).Contents (Elt F) → (⟨S16384x64, .f32⟩ : BufTy).Contents (Elt F) → (⟨S16384x64, .f32⟩ : BufTy).Contents (Elt F)) ]

/-- The operations of the decoder, the losses and the codes (beginning). -/
def opsTa : List (HloOp τ sig (Elt F)) :=
  [ binary main_v136 main_arg6 main_v138 ((fun l r => Host.dotGeneral dot_S16384x64_S64x256_S16384x256_1_0_0_1_n_n none l r) : (⟨S16384x64, .f32⟩ : BufTy).Contents (Elt F) → (⟨S64x256, .f32⟩ : BufTy).Contents (Elt F) → (⟨S16384x256, .f32⟩ : BufTy).Contents (Elt F)),
    unary main_arg7 main_v139 (broadcastInDim S1x256 ![1] bcast_S256_S1x256_1 : (⟨S256, .f32⟩ : BufTy).Contents (Elt F) → (⟨S1x256, .f32⟩ : BufTy).Contents (Elt F)),
    unary main_v139 main_v140 (broadcastInDim S16384x256 ![0, 1] bcast_S1x256_S16384x256_0_1 : (⟨S1x256, .f32⟩ : BufTy).Contents (Elt F) → (⟨S16384x256, .f32⟩ : BufTy).Contents (Elt F)),
    binary main_v138 main_v140 main_v141 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S16384x256, .f32⟩) main_call9_v0) (broadcastInDim S16384x256 ![] bcast_S_S16384x256),
    TRef.binary (TRef.of (T := ⟨S16384x256, .f32⟩) main_v141) (TRef.of (T := ⟨S16384x256, .f32⟩) main_call9_v0) (TRef.of (T := ⟨S16384x256, .f32⟩) main_v142) maximumf,
    binary main_v142 main_arg8 main_v143 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    unary main_arg9 main_v144 (broadcastInDim S1x256 ![1] bcast_S256_S1x256_1 : (⟨S256, .f32⟩ : BufTy).Contents (Elt F) → (⟨S1x256, .f32⟩ : BufTy).Contents (Elt F)),
    unary main_v144 main_v145 (broadcastInDim S16384x256 ![0, 1] bcast_S1x256_S16384x256_0_1 : (⟨S1x256, .f32⟩ : BufTy).Contents (Elt F) → (⟨S16384x256, .f32⟩ : BufTy).Contents (Elt F)),
    binary main_v143 main_v145 main_v146 (addf : (⟨S16384x256, .f32⟩ : BufTy).Contents (Elt F) → (⟨S16384x256, .f32⟩ : BufTy).Contents (Elt F) → (⟨S16384x256, .f32⟩ : BufTy).Contents (Elt F)),
    binary main_v146 main_arg0 main_v147 (subf : (⟨S16384x256, .f32⟩ : BufTy).Contents (Elt F) → (⟨S16384x256, .f32⟩ : BufTy).Contents (Elt F) → (⟨S16384x256, .f32⟩ : BufTy).Contents (Elt F)),
    binary main_v147 main_v147 main_v148 (mulf : (⟨S16384x256, .f32⟩ : BufTy).Contents (Elt F) → (⟨S16384x256, .f32⟩ : BufTy).Contents (Elt F) → (⟨S16384x256, .f32⟩ : BufTy).Contents (Elt F)) ]

/-- The operations of the decoder, the losses and the codes (rest). -/
def opsTb : List (HloOp τ sig (Elt F)) :=
  [ nullary main_cst_30 (constant S_ .f32 0x00000000#32),
    binary main_v148 main_cst_30 main_v149 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_31 (constant S_ .f32 0x4A800000#32),
    binary main_v149 main_cst_31 main_v150 (Host.divf : (⟨S_, .f32⟩ : BufTy).Contents (Elt F) → (⟨S_, .f32⟩ : BufTy).Contents (Elt F) → (⟨S_, .f32⟩ : BufTy).Contents (Elt F)),
    nullary main_cst_32 (constant S_ .f32 0x3E800000#32),
    binary main_cst_32 main_v133 main_v151 (mulf : (⟨S_, .f32⟩ : BufTy).Contents (Elt F) → (⟨S_, .f32⟩ : BufTy).Contents (Elt F) → (⟨S_, .f32⟩ : BufTy).Contents (Elt F)),
    binary main_v132 main_v151 main_v152 (addf : (⟨S_, .f32⟩ : BufTy).Contents (Elt F) → (⟨S_, .f32⟩ : BufTy).Contents (Elt F) → (⟨S_, .f32⟩ : BufTy).Contents (Elt F)),
    binary main_v152 main_v150 main_v153 (addf : (⟨S_, .f32⟩ : BufTy).Contents (Elt F) → (⟨S_, .f32⟩ : BufTy).Contents (Elt F) → (⟨S_, .f32⟩ : BufTy).Contents (Elt F)),
    unary main_v26 main_v154 (broadcastInDim S16384x1 ![0] bcast_S16384_S16384x1_0 : (⟨S16384, .i32⟩ : BufTy).Contents (Elt F) → (⟨S16384x1, .i32⟩ : BufTy).Contents (Elt F)),
    unary main_v58 main_v155 (broadcastInDim S16384x1 ![0] bcast_S16384_S16384x1_0 : (⟨S16384, .i32⟩ : BufTy).Contents (Elt F) → (⟨S16384x1, .i32⟩ : BufTy).Contents (Elt F)),
    unary main_v90 main_v156 (broadcastInDim S16384x1 ![0] bcast_S16384_S16384x1_0 : (⟨S16384, .i32⟩ : BufTy).Contents (Elt F) → (⟨S16384x1, .i32⟩ : BufTy).Contents (Elt F)),
    unary main_v122 main_v157 (broadcastInDim S16384x1 ![0] bcast_S16384_S16384x1_0 : (⟨S16384, .i32⟩ : BufTy).Contents (Elt F) → (⟨S16384x1, .i32⟩ : BufTy).Contents (Elt F)),
    nary ![main_v154, main_v155, main_v156, main_v157] main_v158 (fun u => codes4 (F := F) (u 0) (u 1) (u 2) (u 3)),
    reshape main_v132 main_v159 (rfl : (.f32 : EltTy) = .f32) shapeCasts_S_S1x1,
    reshape main_v151 main_v160 (rfl : (.f32 : EltTy) = .f32) shapeCasts_S_S1x1,
    reshape main_v150 main_v161 (rfl : (.f32 : EltTy) = .f32) shapeCasts_S_S1x1,
    reshape main_v153 main_v162 (rfl : (.f32 : EltTy) = .f32) shapeCasts_S_S1x1 ]

/-- What `opsE` writes. -/
abbrev WE : List (Ref sig .tc) :=
  [main_v0, main_v1, main_v2, main_v3, main_call0_cst, main_call0_v0, main_v4, main_v5, main_v6, main_v7, main_v8, main_cst, main_v9]
set_option maxRecDepth 8192 in
theorem keepE (V : Valuation τ sig (Elt F)) (r : Ref sig .tc) (h : r ∉ WE) :
    after opsE V (no_index (Proc.devRef .tc r)) = V (Proc.devRef .tc r) :=
  after_of_writes_sub opsE _ (forall_writes_sub_of_map rfl) h

set_option maxRecDepth 8192 in
theorem subE : (opsE : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub ..⟩

/-- What `opsD0` writes. -/
abbrev WD0 : List (Ref sig .tc) :=
  [main_v10, main_v11, main_v12, main_cst_0, main_v13, main_v14, main_v15, main_cst_1, main_v16, main_v17, main_v18, main_v19, main_v20, main_v21, main_v22, main_cst_2, main_v23, main_v24, main_v25]
set_option maxRecDepth 8192 in
theorem keepD0 (V : Valuation τ sig (Elt F)) (r : Ref sig .tc) (h : r ∉ WD0) :
    after opsD0 V (no_index (Proc.devRef .tc r)) = V (Proc.devRef .tc r) :=
  after_of_writes_sub opsD0 _ (forall_writes_sub_of_map rfl) h

set_option maxRecDepth 8192 in
theorem subD0 : (opsD0 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

/-- What `opsM0` writes. -/
abbrev WM0 : List (Ref sig .tc) :=
  [main_call1_v0, main_call1_cst, main_call1_c, main_call1_v1_0, main_v26, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v27]
set_option maxRecDepth 8192 in
theorem keepM0 (V : Valuation τ sig (Elt F)) (r : Ref sig .tc) (h : r ∉ WM0) :
    after opsM0 V (no_index (Proc.devRef .tc r)) = V (Proc.devRef .tc r) :=
  after_of_writes_sub opsM0 _ (forall_writes_sub_of_map rfl) h

set_option maxRecDepth 8192 in
theorem subM0 : (opsM0 : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- What `opsU0` writes. -/
abbrev WU0 : List (Ref sig .tc) :=
  [main_v28, main_v29, main_cst_3, main_v30, main_cst_4, main_v31, main_v32, main_v33, main_cst_5, main_v34, main_cst_6, main_v35, main_cst_7, main_v36, main_cst_8, main_v37, main_v38, main_v39, main_v40, main_v41]
set_option maxRecDepth 8192 in
theorem keepU0 (V : Valuation τ sig (Elt F)) (r : Ref sig .tc) (h : r ∉ WU0) :
    after opsU0 V (no_index (Proc.devRef .tc r)) = V (Proc.devRef .tc r) :=
  after_of_writes_sub opsU0 _ (forall_writes_sub_of_map rfl) h

set_option maxRecDepth 8192 in
theorem subU0 : (opsU0 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub ..⟩

/-- The operations of the second level's codebook and distances. -/
def opsD1 : List (HloOp τ sig (Elt F)) := opsD1a ++ opsD1b

/-- What `opsD1` writes. -/
abbrev WD1 : List (Ref sig .tc) :=
  [main_v42, main_v43, main_v44, main_cst_9, main_v45, main_v46, main_v47, main_cst_10, main_v48, main_v49, main_v50, main_v51, main_v52, main_v53, main_v54, main_cst_11, main_v55, main_v56, main_v57]
set_option maxRecDepth 8192 in
theorem keepD1 (V : Valuation τ sig (Elt F)) (r : Ref sig .tc) (h : r ∉ WD1) :
    after opsD1 V (no_index (Proc.devRef .tc r)) = V (Proc.devRef .tc r) :=
  after_of_writes_sub opsD1 _ (forall_writes_sub_of_map rfl) h

set_option maxRecDepth 8192 in
theorem subD1 : (opsD1 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

/-- What `opsM1` writes. -/
abbrev WM1 : List (Ref sig .tc) :=
  [main_call3_v0, main_call3_cst, main_call3_c, main_call3_v1_0, main_v58, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v59]
set_option maxRecDepth 8192 in
theorem keepM1 (V : Valuation τ sig (Elt F)) (r : Ref sig .tc) (h : r ∉ WM1) :
    after opsM1 V (no_index (Proc.devRef .tc r)) = V (Proc.devRef .tc r) :=
  after_of_writes_sub opsM1 _ (forall_writes_sub_of_map rfl) h

set_option maxRecDepth 8192 in
theorem subM1 : (opsM1 : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- What `opsU1` writes. -/
abbrev WU1 : List (Ref sig .tc) :=
  [main_v60, main_v61, main_cst_12, main_v62, main_cst_13, main_v63, main_v64, main_v65, main_cst_14, main_v66, main_cst_15, main_v67, main_v68, main_v69, main_v70, main_v71, main_v72, main_v73]
set_option maxRecDepth 8192 in
theorem keepU1 (V : Valuation τ sig (Elt F)) (r : Ref sig .tc) (h : r ∉ WU1) :
    after opsU1 V (no_index (Proc.devRef .tc r)) = V (Proc.devRef .tc r) :=
  after_of_writes_sub opsU1 _ (forall_writes_sub_of_map rfl) h

set_option maxRecDepth 8192 in
theorem subU1 : (opsU1 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., binary_bufs_sub .., binary_bufs_sub .., binary_bufs_sub .., binary_bufs_sub .., binary_bufs_sub ..⟩

/-- What `opsD2` writes. -/
abbrev WD2 : List (Ref sig .tc) :=
  [main_v74, main_v75, main_v76, main_cst_16, main_v77, main_v78, main_v79, main_cst_17, main_v80, main_v81, main_v82, main_v83, main_v84, main_v85, main_v86, main_cst_18, main_v87, main_v88, main_v89]
set_option maxRecDepth 8192 in
theorem keepD2 (V : Valuation τ sig (Elt F)) (r : Ref sig .tc) (h : r ∉ WD2) :
    after opsD2 V (no_index (Proc.devRef .tc r)) = V (Proc.devRef .tc r) :=
  after_of_writes_sub opsD2 _ (forall_writes_sub_of_map rfl) h

set_option maxRecDepth 8192 in
theorem subD2 : (opsD2 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

/-- What `opsM2` writes. -/
abbrev WM2 : List (Ref sig .tc) :=
  [main_call5_v0, main_call5_cst, main_call5_c, main_call5_v1_0, main_v90, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v91]
set_option maxRecDepth 8192 in
theorem keepM2 (V : Valuation τ sig (Elt F)) (r : Ref sig .tc) (h : r ∉ WM2) :
    after opsM2 V (no_index (Proc.devRef .tc r)) = V (Proc.devRef .tc r) :=
  after_of_writes_sub opsM2 _ (forall_writes_sub_of_map rfl) h

set_option maxRecDepth 8192 in
theorem subM2 : (opsM2 : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The operations of the third level's losses, straight-through value and residual. -/
def opsU2 : List (HloOp τ sig (Elt F)) := opsU2a ++ opsU2b

/-- What `opsU2` writes. -/
abbrev WU2 : List (Ref sig .tc) :=
  [main_v92, main_v93, main_cst_19, main_v94, main_cst_20, main_v95, main_v96, main_v97, main_cst_21, main_v98, main_cst_22, main_v99, main_v100, main_v101, main_v102, main_v103, main_v104, main_v105]
set_option maxRecDepth 8192 in
theorem keepU2 (V : Valuation τ sig (Elt F)) (r : Ref sig .tc) (h : r ∉ WU2) :
    after opsU2 V (no_index (Proc.devRef .tc r)) = V (Proc.devRef .tc r) :=
  after_of_writes_sub opsU2 _ (forall_writes_sub_of_map rfl) h

set_option maxRecDepth 8192 in
theorem subU2 : (opsU2 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., binary_bufs_sub .., binary_bufs_sub .., binary_bufs_sub .., binary_bufs_sub .., binary_bufs_sub ..⟩

/-- What `opsD3` writes. -/
abbrev WD3 : List (Ref sig .tc) :=
  [main_v106, main_v107, main_v108, main_cst_23, main_v109, main_v110, main_v111, main_cst_24, main_v112, main_v113, main_v114, main_v115, main_v116, main_v117, main_v118, main_cst_25, main_v119, main_v120, main_v121]
set_option maxRecDepth 8192 in
theorem keepD3 (V : Valuation τ sig (Elt F)) (r : Ref sig .tc) (h : r ∉ WD3) :
    after opsD3 V (no_index (Proc.devRef .tc r)) = V (Proc.devRef .tc r) :=
  after_of_writes_sub opsD3 _ (forall_writes_sub_of_map rfl) h

set_option maxRecDepth 8192 in
theorem subD3 : (opsD3 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

/-- What `opsM3` writes. -/
abbrev WM3 : List (Ref sig .tc) :=
  [main_call7_v0, main_call7_cst, main_call7_c, main_call7_v1_0, main_v122, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v123]
set_option maxRecDepth 8192 in
theorem keepM3 (V : Valuation τ sig (Elt F)) (r : Ref sig .tc) (h : r ∉ WM3) :
    after opsM3 V (no_index (Proc.devRef .tc r)) = V (Proc.devRef .tc r) :=
  after_of_writes_sub opsM3 _ (forall_writes_sub_of_map rfl) h

set_option maxRecDepth 8192 in
theorem subM3 : (opsM3 : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- What `opsU3` writes. -/
abbrev WU3 : List (Ref sig .tc) :=
  [main_v124, main_v125, main_cst_26, main_v126, main_cst_27, main_v127, main_v128, main_v129, main_cst_28, main_v130, main_cst_29, main_v131, main_v132, main_v133, main_v134, main_v135, main_v136, main_v137]
set_option maxRecDepth 8192 in
theorem keepU3 (V : Valuation τ sig (Elt F)) (r : Ref sig .tc) (h : r ∉ WU3) :
    after opsU3 V (no_index (Proc.devRef .tc r)) = V (Proc.devRef .tc r) :=
  after_of_writes_sub opsU3 _ (forall_writes_sub_of_map rfl) h

set_option maxRecDepth 8192 in
theorem subU3 : (opsU3 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., binary_bufs_sub .., binary_bufs_sub .., binary_bufs_sub .., binary_bufs_sub .., binary_bufs_sub ..⟩

/-- The operations of the decoder, the losses and the codes. -/
def opsT : List (HloOp τ sig (Elt F)) := opsTa ++ opsTb

/-- What `opsT` writes. -/
abbrev WT : List (Ref sig .tc) :=
  [main_v138, main_v139, main_v140, main_v141, main_call9_cst, main_call9_v0, main_v142, main_v143, main_v144, main_v145, main_v146, main_v147, main_v148, main_cst_30, main_v149, main_cst_31, main_v150, main_cst_32, main_v151, main_v152, main_v153, main_v154, main_v155, main_v156, main_v157, main_v158, main_v159, main_v160, main_v161, main_v162]
set_option maxRecDepth 8192 in
theorem keepT (V : Valuation τ sig (Elt F)) (r : Ref sig .tc) (h : r ∉ WT) :
    after opsT V (no_index (Proc.devRef .tc r)) = V (Proc.devRef .tc r) :=
  after_of_writes_sub opsT _ (forall_writes_sub_of_map rfl) h

set_option maxRecDepth 8192 in
theorem subT : (opsT : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., unary_bufs_sub .., unary_bufs_sub .., unary_bufs_sub .., unary_bufs_sub .., nary_bufs_sub .., reshape_bufs_sub .., reshape_bufs_sub .., reshape_bufs_sub .., reshape_bufs_sub ..⟩

/-- The whole program's operations. -/
def ops : List (HloOp τ sig (Elt F)) :=
  opsE ++ (opsD0 ++ (opsM0 ++ (opsU0 ++ (opsD1 ++ (opsM1 ++ (opsU1 ++ (opsD2 ++ (opsM2 ++ (opsU2 ++ (opsD3 ++ (opsM3 ++ (opsU3 ++ (opsT)))))))))))))

set_option maxRecDepth 16384 in
theorem part0_eq (c : Dev nD) : main_part0 (F := F) c = seq (opsE ++ (opsD0 ++ (opsM0 ++ (opsU0 ++ (opsD1a))))) := rfl

set_option maxRecDepth 16384 in
theorem part1_eq (c : Dev nD) : main_part1 (F := F) c = seq (opsD1b ++ (opsM1 ++ (opsU1 ++ (opsD2 ++ (opsM2 ++ (opsU2a)))))) := rfl

set_option maxRecDepth 16384 in
theorem part2_eq (c : Dev nD) : main_part2 (F := F) c = seq (opsU2b ++ (opsD3 ++ (opsM3 ++ (opsU3 ++ (opsTa))))) := rfl

set_option maxRecDepth 16384 in
theorem part3_eq (c : Dev nD) : main_part3 (F := F) c = seq (opsTb) := rfl

theorem main_eq (c : Dev nD) : main (F := F) c = seq ops := by
  have h : main (F := F) c = (do main_part0 c; main_part1 c; main_part2 c; main_part3 c) := rfl
  rw [h, part0_eq, part1_eq, part2_eq, part3_eq]
  simp only [ops, opsD1, opsU2, opsT, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨subE, subD0, subM0, subU0, subD1, subM1, subU1, subD2, subM2, subU2, subD3, subM3, subU3, subT⟩

set_option maxRecDepth 16384 in
theorem ops_fresh : (ops : List (HloOp τ sig (Elt F))).Forall fun op => op.fresh = ∅ := forall_fresh_of_map rfl

/-- Every execution of the reference ends with each buffer at what the operations, in order, leave in it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ fun _ => List.forall_iff_forall_mem.mp ops_fresh

end Cert.ReferenceIdeal.Steps

end
-- ==== Proof.RefRun.lean ====
/- The reference's meaning as functions of whole arrays: the encoder, one quantization level (used four times), the
   decoder and the losses; and the run of the reference read as these functions of its arguments. -/
module

public import proofs.«01_k».proof.Proof.RefOps

@[expose] public section

set_option Elab.async false

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- A constant scalar. -/
abbrev sc (b : BitVec 32) : (⟨S_, .f32⟩ : BufTy).Contents (Elt F) := constant S_ .f32 b

/-- A wide layer: 256 features to 256, its bias, and the positive part. -/
def wide (y : (⟨S16384x256, .f32⟩ : BufTy).Contents (Elt F)) (b : (⟨S256, .f32⟩ : BufTy).Contents (Elt F)) :
    (⟨S16384x256, .f32⟩ : BufTy).Contents (Elt F) :=
  addf y (broadcastInDim S16384x256 ![0, 1] bcast_S1x256_S16384x256_0_1 (broadcastInDim S1x256 ![1] bcast_S256_S1x256_1 b))

/-- The positive part of a wide layer. -/
def pos (y : (⟨S16384x256, .f32⟩ : BufTy).Contents (Elt F)) : (⟨S16384x256, .f32⟩ : BufTy).Contents (Elt F) :=
  maximumf y (broadcastInDim S16384x256 ![] bcast_S_S16384x256 (sc 0x00000000#32))

/-- The encoder. -/
def enc (x : (⟨S16384x256, .f32⟩ : BufTy).Contents (Elt F)) (w1 : (⟨S256x256, .f32⟩ : BufTy).Contents (Elt F))
    (b1 : (⟨S256, .f32⟩ : BufTy).Contents (Elt F)) (w2 : (⟨S256x64, .f32⟩ : BufTy).Contents (Elt F))
    (b2 : (⟨S64, .f32⟩ : BufTy).Contents (Elt F)) : (⟨S16384x64, .f32⟩ : BufTy).Contents (Elt F) :=
  addf (Host.dotGeneral dot_S16384x256_S256x64_S16384x64_1_0_0_1_n_n none
      (pos (wide (Host.dotGeneral dot_S16384x256_S256x256_S16384x256_1_0_0_1_n_n none x w1) b1)) w2)
    (broadcastInDim S16384x64 ![0, 1] bcast_S1x64_S16384x64_0_1 (broadcastInDim S1x64 ![1] bcast_S64_S1x64_1 b2))

/-- The decoder. -/
def dec (z : (⟨S16384x64, .f32⟩ : BufTy).Contents (Elt F)) (w1 : (⟨S64x256, .f32⟩ : BufTy).Contents (Elt F))
    (b1 : (⟨S256, .f32⟩ : BufTy).Contents (Elt F)) (w2 : (⟨S256x256, .f32⟩ : BufTy).Contents (Elt F))
    (b2 : (⟨S256, .f32⟩ : BufTy).Contents (Elt F)) : (⟨S16384x256, .f32⟩ : BufTy).Contents (Elt F) :=
  wide (Host.dotGeneral dot_S16384x256_S256x256_S16384x256_1_0_0_1_n_n none
      (pos (wide (Host.dotGeneral dot_S16384x64_S64x256_S16384x256_1_0_0_1_n_n none z w1) b1)) w2) b2

/-- The four levels' codebooks. -/
def cb0 (c : (⟨S4x1024x64, .f32⟩ : BufTy).Contents (Elt F)) : (⟨S1024x64, .f32⟩ : BufTy).Contents (Elt F) :=
  shapeCast S1024x64 (extractStridedSlice S1x1024x64 ![0, 0, 0] c slices_S4x1024x64_S1x1024x64_0_0_0) shapeCasts_S1x1024x64_S1024x64
@[inherit_doc cb0] def cb1 (c : (⟨S4x1024x64, .f32⟩ : BufTy).Contents (Elt F)) : (⟨S1024x64, .f32⟩ : BufTy).Contents (Elt F) :=
  shapeCast S1024x64 (extractStridedSlice S1x1024x64 ![1, 0, 0] c slices_S4x1024x64_S1x1024x64_1_0_0) shapeCasts_S1x1024x64_S1024x64
@[inherit_doc cb0] def cb2 (c : (⟨S4x1024x64, .f32⟩ : BufTy).Contents (Elt F)) : (⟨S1024x64, .f32⟩ : BufTy).Contents (Elt F) :=
  shapeCast S1024x64 (extractStridedSlice S1x1024x64 ![2, 0, 0] c slices_S4x1024x64_S1x1024x64_2_0_0) shapeCasts_S1x1024x64_S1024x64
@[inherit_doc cb0] def cb3 (c : (⟨S4x1024x64, .f32⟩ : BufTy).Contents (Elt F)) : (⟨S1024x64, .f32⟩ : BufTy).Contents (Elt F) :=
  shapeCast S1024x64 (extractStridedSlice S1x1024x64 ![3, 0, 0] c slices_S4x1024x64_S1x1024x64_3_0_0) shapeCasts_S1x1024x64_S1024x64

/-- The squared distances of every row to every entry of a codebook. -/
def dist (r : (⟨S16384x64, .f32⟩ : BufTy).Contents (Elt F)) (cb : (⟨S1024x64, .f32⟩ : BufTy).Contents (Elt F)) :
    (⟨S16384x1024, .f32⟩ : BufTy).Contents (Elt F) :=
  subf (addf
      (broadcastInDim S16384x1024 ![0, 1] bcast_S16384x1_S16384x1024_0_1 (broadcastInDim S16384x1 ![0] bcast_S16384_S16384x1_0
        (Host.reduceAdd (mulf r r) (sc 0x00000000#32) reducesTo_S16384x64_S16384_d1 h_S_)))
      (broadcastInDim S16384x1024 ![0, 1] bcast_S1x1024_S16384x1024_0_1 (broadcastInDim S1x1024 ![1] bcast_S1024_S1x1024_1
        (Host.reduceAdd (mulf cb cb) (sc 0x00000000#32) reducesTo_S1024x64_S1024_d1 h_S_))))
    (mulf (broadcastInDim S16384x1024 ![] bcast_S_S16384x1024 (sc 0x40000000#32))
      (Host.dotGeneral dot_S16384x64_S64x1024_S16384x1024_1_0_0_1_n_n none r (transpose S64x1024 [1, 0] cb transposes_S1024x64_S64x1024_1_0)))

/-- The first nearest entry of every row. -/
def nearest (d : (⟨S16384x1024, .f32⟩ : BufTy).Contents (Elt F)) : (⟨S16384, .i32⟩ : BufTy).Contents (Elt F) :=
  fun j => (Host.argReduce reducer_argmin_f32_i32 d (iotaInDim S16384x1024 32 1) (sc 0x7F800000#32) (constantI S_ 32 0#32)
    reducesTo_S16384x1024_S16384_d1 h_S_ j).2

/-- An index counted from the end made one from the start, as a column. -/
def wrapped (i : (⟨S16384, .i32⟩ : BufTy).Contents (Elt F)) : (⟨S16384x1, .i32⟩ : BufTy).Contents (Elt F) :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- Which of the indices lie inside the codebook. -/
def inside (w : (⟨S16384x1, .i32⟩ : BufTy).Contents (Elt F)) : (⟨S16384, .i1⟩ : BufTy).Contents (Elt F) :=
  Host.reduce IntOp.andi
    (andi (cmpi .sge w (broadcastInDim S16384x1 ![] bcast_S_S16384x1 (constantI S_ 32 0#32)))
      (cmpi .sle w (broadcastInDim S16384x1 ![0, 1] bcast_S1x1_S16384x1_0_1 (broadcastInDim S1x1 ![1] bcast_S1_S1x1_1 (constantI S1 32 1023#32)))))
    (constantI S_ 1 1#1) reducesTo_S16384x1_S16384_d1 h_S_

/-- The rows of a codebook at given indices. -/
def rowsAt (cb : (⟨S1024x64, .f32⟩ : BufTy).Contents (Elt F)) (i : (⟨S16384, .i32⟩ : BufTy).Contents (Elt F)) :
    (⟨S16384x64, .f32⟩ : BufTy).Contents (Elt F) :=
  select (broadcastInDim S16384x64 ![0] bcast_S16384_S16384x64_0 (inside (F := F) (wrapped (F := F) i)))
    (Host.gather gather_S1024x64_S16384x1_S16384x64_1_0_n_n_0_1_164 cb (wrapped (F := F) i))
    (broadcastInDim S16384x64 ![] bcast_S_S16384x64 (sc 0x7FC00000#32))

/-- The mean of the squares of an array of rows of 64. -/
def mean64 (d : (⟨S16384x64, .f32⟩ : BufTy).Contents (Elt F)) : (⟨S_, .f32⟩ : BufTy).Contents (Elt F) :=
  Host.divf (Host.reduceAdd (mulf d d) (sc 0x00000000#32) reducesTo_S16384x64_S_d0_1 h_S_) (sc 0x49800000#32)

/-- The mean of the squares of an array of rows of 256. -/
def mean256 (d : (⟨S16384x256, .f32⟩ : BufTy).Contents (Elt F)) : (⟨S_, .f32⟩ : BufTy).Contents (Elt F) :=
  Host.divf (Host.reduceAdd (mulf d d) (sc 0x00000000#32) reducesTo_S16384x256_S_d0_1 h_S_) (sc 0x4A800000#32)

/-- The codes of a level's residual. -/
def code (r : (⟨S16384x64, .f32⟩ : BufTy).Contents (Elt F)) (cb : (⟨S1024x64, .f32⟩ : BufTy).Contents (Elt F)) :
    (⟨S16384, .i32⟩ : BufTy).Contents (Elt F) := nearest (dist r cb)

/-- What a level's nearest entries miss of the residual. -/
def miss (r : (⟨S16384x64, .f32⟩ : BufTy).Contents (Elt F)) (cb : (⟨S1024x64, .f32⟩ : BufTy).Contents (Elt F)) :
    (⟨S16384x64, .f32⟩ : BufTy).Contents (Elt F) := subf (rowsAt cb (code r cb)) r

/-- A level's straight-through value. -/
def through (r : (⟨S16384x64, .f32⟩ : BufTy).Contents (Elt F)) (cb : (⟨S1024x64, .f32⟩ : BufTy).Contents (Elt F)) :
    (⟨S16384x64, .f32⟩ : BufTy).Contents (Elt F) := addf r (miss r cb)

/-- The residual a level leaves. -/
def next (r : (⟨S16384x64, .f32⟩ : BufTy).Contents (Elt F)) (cb : (⟨S1024x64, .f32⟩ : BufTy).Contents (Elt F)) :
    (⟨S16384x64, .f32⟩ : BufTy).Contents (Elt F) := subf r (through r cb)

/-- The residuals that reach the second, third and fourth level. -/
def res1 (z : (⟨S16384x64, .f32⟩ : BufTy).Contents (Elt F)) (c : (⟨S4x1024x64, .f32⟩ : BufTy).Contents (Elt F)) :
    (⟨S16384x64, .f32⟩ : BufTy).Contents (Elt F) := next z (cb0 c)
@[inherit_doc res1] def res2 (z : (⟨S16384x64, .f32⟩ : BufTy).Contents (Elt F)) (c : (⟨S4x1024x64, .f32⟩ : BufTy).Contents (Elt F)) :
    (⟨S16384x64, .f32⟩ : BufTy).Contents (Elt F) := next (res1 z c) (cb1 c)
@[inherit_doc res1] def res3 (z : (⟨S16384x64, .f32⟩ : BufTy).Contents (Elt F)) (c : (⟨S4x1024x64, .f32⟩ : BufTy).Contents (Elt F)) :
    (⟨S16384x64, .f32⟩ : BufTy).Contents (Elt F) := next (res2 z c) (cb2 c)

/-- The quantized rows: the straight-through values of the four levels added up. -/
def quant (z : (⟨S16384x64, .f32⟩ : BufTy).Contents (Elt F)) (c : (⟨S4x1024x64, .f32⟩ : BufTy).Contents (Elt F)) :
    (⟨S16384x64, .f32⟩ : BufTy).Contents (Elt F) :=
  addf (addf (addf (addf (broadcastInDim S16384x64 ![] bcast_S_S16384x64 (sc 0x00000000#32)) (through z (cb0 c)))
    (through (res1 z c) (cb1 c))) (through (res2 z c) (cb2 c))) (through (res3 z c) (cb3 c))

/-- The codebook loss: the four levels' means added up. -/
def cbLoss (z : (⟨S16384x64, .f32⟩ : BufTy).Contents (Elt F)) (c : (⟨S4x1024x64, .f32⟩ : BufTy).Contents (Elt F)) :
    (⟨S_, .f32⟩ : BufTy).Contents (Elt F) :=
  addf (addf (addf (addf (sc 0x00000000#32) (mean64 (miss z (cb0 c)))) (mean64 (miss (res1 z c) (cb1 c))))
    (mean64 (miss (res2 z c) (cb2 c)))) (mean64 (miss (res3 z c) (cb3 c)))

/-- A vector of codes as a column. -/
def column (i : (⟨S16384, .i32⟩ : BufTy).Contents (Elt F)) : (⟨S16384x1, .i32⟩ : BufTy).Contents (Elt F) :=
  broadcastInDim S16384x1 ![0] bcast_S16384_S16384x1_0 i

/-- A scalar as a one by one array. -/
def boxed (s : (⟨S_, .f32⟩ : BufTy).Contents (Elt F)) : (⟨S1x1, .f32⟩ : BufTy).Contents (Elt F) :=
  shapeCast S1x1 s shapeCasts_S_S1x1

variable (V : Valuation τ sig (Elt F))

/- What each list leaves in the buffers later lists read, in terms of what it found. -/

theorem readE_z : after opsE V (no_index (Proc.devRef .tc main_v8)) = enc (V (Proc.devRef .tc main_arg0)) (V (Proc.devRef .tc main_arg1)) (V (Proc.devRef .tc main_arg2)) (V (Proc.devRef .tc main_arg3)) (V (Proc.devRef .tc main_arg4)) := by
  simp only [opsE, List.cons_append, List.nil_append, TRef.nullary, TRef.unary, TRef.binary, TRef.ternary, TRef.quaternary, TRef.toBuf, TRef.ofBuf, cast_eq]
  after_results_simp <;> rfl

theorem readE_0 : after opsE V (no_index (Proc.devRef .tc main_v9)) = broadcastInDim S16384x64 ![] bcast_S_S16384x64 (sc 0x00000000#32) := by
  simp only [opsE, List.cons_append, List.nil_append, TRef.nullary, TRef.unary, TRef.binary, TRef.ternary, TRef.quaternary, TRef.toBuf, TRef.ofBuf, cast_eq]
  after_results_simp <;> rfl

theorem readD0_cb : after opsD0 V (no_index (Proc.devRef .tc main_v11)) = cb0 (V (Proc.devRef .tc main_arg5)) := by
  simp only [opsD0, List.cons_append, List.nil_append, TRef.nullary, TRef.unary, TRef.binary, TRef.ternary, TRef.quaternary, TRef.toBuf, TRef.ofBuf, cast_eq]
  after_results_simp <;> rfl

theorem readD0_d : after opsD0 V (no_index (Proc.devRef .tc main_v25)) = dist (V (Proc.devRef .tc main_v8)) (cb0 (V (Proc.devRef .tc main_arg5))) := by
  simp only [opsD0, List.cons_append, List.nil_append, TRef.nullary, TRef.unary, TRef.binary, TRef.ternary, TRef.quaternary, TRef.toBuf, TRef.ofBuf, cast_eq]
  after_results_simp <;> rfl

theorem readM0_i : after opsM0 V (no_index (Proc.devRef .tc main_v26)) = nearest (V (Proc.devRef .tc main_v25)) := by
  simp only [opsM0, List.cons_append, List.nil_append, TRef.nullary, TRef.unary, TRef.binary, TRef.ternary, TRef.quaternary, TRef.toBuf, TRef.ofBuf, cast_eq]
  after_results_simp <;> rfl

theorem readM0_q : after opsM0 V (no_index (Proc.devRef .tc main_v27)) = rowsAt (V (Proc.devRef .tc main_v11)) (nearest (V (Proc.devRef .tc main_v25))) := by
  simp only [opsM0, List.cons_append, List.nil_append, TRef.nullary, TRef.unary, TRef.binary, TRef.ternary, TRef.quaternary, TRef.toBuf, TRef.ofBuf, cast_eq]
  after_results_simp <;> rfl

theorem readU0_l : after opsU0 V (no_index (Proc.devRef .tc main_v36)) = addf (sc 0x00000000#32) (mean64 (subf (V (Proc.devRef .tc main_v27)) (V (Proc.devRef .tc main_v8)))) := by
  simp only [opsU0, List.cons_append, List.nil_append, TRef.nullary, TRef.unary, TRef.binary, TRef.ternary, TRef.quaternary, TRef.toBuf, TRef.ofBuf, cast_eq]
  after_results_simp <;> rfl

theorem readU0_k : after opsU0 V (no_index (Proc.devRef .tc main_v37)) = addf (sc 0x00000000#32) (mean64 (subf (V (Proc.devRef .tc main_v27)) (V (Proc.devRef .tc main_v8)))) := by
  simp only [opsU0, List.cons_append, List.nil_append, TRef.nullary, TRef.unary, TRef.binary, TRef.ternary, TRef.quaternary, TRef.toBuf, TRef.ofBuf, cast_eq]
  after_results_simp <;> rfl

theorem readU0_z : after opsU0 V (no_index (Proc.devRef .tc main_v40)) = addf (V (Proc.devRef .tc main_v9)) (addf (V (Proc.devRef .tc main_v8)) (subf (V (Proc.devRef .tc main_v27)) (V (Proc.devRef .tc main_v8)))) := by
  simp only [opsU0, List.cons_append, List.nil_append, TRef.nullary, TRef.unary, TRef.binary, TRef.ternary, TRef.quaternary, TRef.toBuf, TRef.ofBuf, cast_eq]
  after_results_simp <;> rfl

theorem readU0_n : after opsU0 V (no_index (Proc.devRef .tc main_v41)) = subf (V (Proc.devRef .tc main_v8)) (addf (V (Proc.devRef .tc main_v8)) (subf (V (Proc.devRef .tc main_v27)) (V (Proc.devRef .tc main_v8)))) := by
  simp only [opsU0, List.cons_append, List.nil_append, TRef.nullary, TRef.unary, TRef.binary, TRef.ternary, TRef.quaternary, TRef.toBuf, TRef.ofBuf, cast_eq]
  after_results_simp <;> rfl

theorem readD1_cb : after opsD1 V (no_index (Proc.devRef .tc main_v43)) = cb1 (V (Proc.devRef .tc main_arg5)) := by
  simp only [opsD1, opsD1a, opsD1b, List.cons_append, List.nil_append, TRef.nullary, TRef.unary, TRef.binary, TRef.ternary, TRef.quaternary, TRef.toBuf, TRef.ofBuf, cast_eq]
  after_results_simp <;> rfl

theorem readD1_d : after opsD1 V (no_index (Proc.devRef .tc main_v57)) = dist (V (Proc.devRef .tc main_v41)) (cb1 (V (Proc.devRef .tc main_arg5))) := by
  simp only [opsD1, opsD1a, opsD1b, List.cons_append, List.nil_append, TRef.nullary, TRef.unary, TRef.binary, TRef.ternary, TRef.quaternary, TRef.toBuf, TRef.ofBuf, cast_eq]
  after_results_simp <;> rfl

theorem readM1_i : after opsM1 V (no_index (Proc.devRef .tc main_v58)) = nearest (V (Proc.devRef .tc main_v57)) := by
  simp only [opsM1, List.cons_append, List.nil_append, TRef.nullary, TRef.unary, TRef.binary, TRef.ternary, TRef.quaternary, TRef.toBuf, TRef.ofBuf, cast_eq]
  after_results_simp <;> rfl

theorem readM1_q : after opsM1 V (no_index (Proc.devRef .tc main_v59)) = rowsAt (V (Proc.devRef .tc main_v43)) (nearest (V (Proc.devRef .tc main_v57))) := by
  simp only [opsM1, List.cons_append, List.nil_append, TRef.nullary, TRef.unary, TRef.binary, TRef.ternary, TRef.quaternary, TRef.toBuf, TRef.ofBuf, cast_eq]
  after_results_simp <;> rfl

theorem readU1_l : after opsU1 V (no_index (Proc.devRef .tc main_v68)) = addf (V (Proc.devRef .tc main_v36)) (mean64 (subf (V (Proc.devRef .tc main_v59)) (V (Proc.devRef .tc main_v41)))) := by
  simp only [opsU1, List.cons_append, List.nil_append, TRef.nullary, TRef.unary, TRef.binary, TRef.ternary, TRef.quaternary, TRef.toBuf, TRef.ofBuf, cast_eq]
  after_results_simp <;> rfl

theorem readU1_k : after opsU1 V (no_index (Proc.devRef .tc main_v69)) = addf (V (Proc.devRef .tc main_v37)) (mean64 (subf (V (Proc.devRef .tc main_v59)) (V (Proc.devRef .tc main_v41)))) := by
  simp only [opsU1, List.cons_append, List.nil_append, TRef.nullary, TRef.unary, TRef.binary, TRef.ternary, TRef.quaternary, TRef.toBuf, TRef.ofBuf, cast_eq]
  after_results_simp <;> rfl

theorem readU1_z : after opsU1 V (no_index (Proc.devRef .tc main_v72)) = addf (V (Proc.devRef .tc main_v40)) (addf (V (Proc.devRef .tc main_v41)) (subf (V (Proc.devRef .tc main_v59)) (V (Proc.devRef .tc main_v41)))) := by
  simp only [opsU1, List.cons_append, List.nil_append, TRef.nullary, TRef.unary, TRef.binary, TRef.ternary, TRef.quaternary, TRef.toBuf, TRef.ofBuf, cast_eq]
  after_results_simp <;> rfl

theorem readU1_n : after opsU1 V (no_index (Proc.devRef .tc main_v73)) = subf (V (Proc.devRef .tc main_v41)) (addf (V (Proc.devRef .tc main_v41)) (subf (V (Proc.devRef .tc main_v59)) (V (Proc.devRef .tc main_v41)))) := by
  simp only [opsU1, List.cons_append, List.nil_append, TRef.nullary, TRef.unary, TRef.binary, TRef.ternary, TRef.quaternary, TRef.toBuf, TRef.ofBuf, cast_eq]
  after_results_simp <;> rfl

theorem readD2_cb : after opsD2 V (no_index (Proc.devRef .tc main_v75)) = cb2 (V (Proc.devRef .tc main_arg5)) := by
  simp only [opsD2, List.cons_append, List.nil_append, TRef.nullary, TRef.unary, TRef.binary, TRef.ternary, TRef.quaternary, TRef.toBuf, TRef.ofBuf, cast_eq]
  after_results_simp <;> rfl

theorem readD2_d : after opsD2 V (no_index (Proc.devRef .tc main_v89)) = dist (V (Proc.devRef .tc main_v73)) (cb2 (V (Proc.devRef .tc main_arg5))) := by
  simp only [opsD2, List.cons_append, List.nil_append, TRef.nullary, TRef.unary, TRef.binary, TRef.ternary, TRef.quaternary, TRef.toBuf, TRef.ofBuf, cast_eq]
  after_results_simp <;> rfl

theorem readM2_i : after opsM2 V (no_index (Proc.devRef .tc main_v90)) = nearest (V (Proc.devRef .tc main_v89)) := by
  simp only [opsM2, List.cons_append, List.nil_append, TRef.nullary, TRef.unary, TRef.binary, TRef.ternary, TRef.quaternary, TRef.toBuf, TRef.ofBuf, cast_eq]
  after_results_simp <;> rfl

theorem readM2_q : after opsM2 V (no_index (Proc.devRef .tc main_v91)) = rowsAt (V (Proc.devRef .tc main_v75)) (nearest (V (Proc.devRef .tc main_v89))) := by
  simp only [opsM2, List.cons_append, List.nil_append, TRef.nullary, TRef.unary, TRef.binary, TRef.ternary, TRef.quaternary, TRef.toBuf, TRef.ofBuf, cast_eq]
  after_results_simp <;> rfl

theorem readU2_l : after opsU2 V (no_index (Proc.devRef .tc main_v100)) = addf (V (Proc.devRef .tc main_v68)) (mean64 (subf (V (Proc.devRef .tc main_v91)) (V (Proc.devRef .tc main_v73)))) := by
  simp only [opsU2, opsU2a, opsU2b, List.cons_append, List.nil_append, TRef.nullary, TRef.unary, TRef.binary, TRef.ternary, TRef.quaternary, TRef.toBuf, TRef.ofBuf, cast_eq]
  after_results_simp <;> rfl

theorem readU2_k : after opsU2 V (no_index (Proc.devRef .tc main_v101)) = addf (V (Proc.devRef .tc main_v69)) (mean64 (subf (V (Proc.devRef .tc main_v91)) (V (Proc.devRef .tc main_v73)))) := by
  simp only [opsU2, opsU2a, opsU2b, List.cons_append, List.nil_append, TRef.nullary, TRef.unary, TRef.binary, TRef.ternary, TRef.quaternary, TRef.toBuf, TRef.ofBuf, cast_eq]
  after_results_simp <;> rfl

theorem readU2_z : after opsU2 V (no_index (Proc.devRef .tc main_v104)) = addf (V (Proc.devRef .tc main_v72)) (addf (V (Proc.devRef .tc main_v73)) (subf (V (Proc.devRef .tc main_v91)) (V (Proc.devRef .tc main_v73)))) := by
  simp only [opsU2, opsU2a, opsU2b, List.cons_append, List.nil_append, TRef.nullary, TRef.unary, TRef.binary, TRef.ternary, TRef.quaternary, TRef.toBuf, TRef.ofBuf, cast_eq]
  after_results_simp <;> rfl

theorem readU2_n : after opsU2 V (no_index (Proc.devRef .tc main_v105)) = subf (V (Proc.devRef .tc main_v73)) (addf (V (Proc.devRef .tc main_v73)) (subf (V (Proc.devRef .tc main_v91)) (V (Proc.devRef .tc main_v73)))) := by
  simp only [opsU2, opsU2a, opsU2b, List.cons_append, List.nil_append, TRef.nullary, TRef.unary, TRef.binary, TRef.ternary, TRef.quaternary, TRef.toBuf, TRef.ofBuf, cast_eq]
  after_results_simp <;> rfl

theorem readD3_cb : after opsD3 V (no_index (Proc.devRef .tc main_v107)) = cb3 (V (Proc.devRef .tc main_arg5)) := by
  simp only [opsD3, List.cons_append, List.nil_append, TRef.nullary, TRef.unary, TRef.binary, TRef.ternary, TRef.quaternary, TRef.toBuf, TRef.ofBuf, cast_eq]
  after_results_simp <;> rfl

theorem readD3_d : after opsD3 V (no_index (Proc.devRef .tc main_v121)) = dist (V (Proc.devRef .tc main_v105)) (cb3 (V (Proc.devRef .tc main_arg5))) := by
  simp only [opsD3, List.cons_append, List.nil_append, TRef.nullary, TRef.unary, TRef.binary, TRef.ternary, TRef.quaternary, TRef.toBuf, TRef.ofBuf, cast_eq]
  after_results_simp <;> rfl

theorem readM3_i : after opsM3 V (no_index (Proc.devRef .tc main_v122)) = nearest (V (Proc.devRef .tc main_v121)) := by
  simp only [opsM3, List.cons_append, List.nil_append, TRef.nullary, TRef.unary, TRef.binary, TRef.ternary, TRef.quaternary, TRef.toBuf, TRef.ofBuf, cast_eq]
  after_results_simp <;> rfl

theorem readM3_q : after opsM3 V (no_index (Proc.devRef .tc main_v123)) = rowsAt (V (Proc.devRef .tc main_v107)) (nearest (V (Proc.devRef .tc main_v121))) := by
  simp only [opsM3, List.cons_append, List.nil_append, TRef.nullary, TRef.unary, TRef.binary, TRef.ternary, TRef.quaternary, TRef.toBuf, TRef.ofBuf, cast_eq]
  after_results_simp <;> rfl

theorem readU3_l : after opsU3 V (no_index (Proc.devRef .tc main_v132)) = addf (V (Proc.devRef .tc main_v100)) (mean64 (subf (V (Proc.devRef .tc main_v123)) (V (Proc.devRef .tc main_v105)))) := by
  simp only [opsU3, List.cons_append, List.nil_append, TRef.nullary, TRef.unary, TRef.binary, TRef.ternary, TRef.quaternary, TRef.toBuf, TRef.ofBuf, cast_eq]
  after_results_simp <;> rfl

theorem readU3_k : after opsU3 V (no_index (Proc.devRef .tc main_v133)) = addf (V (Proc.devRef .tc main_v101)) (mean64 (subf (V (Proc.devRef .tc main_v123)) (V (Proc.devRef .tc main_v105)))) := by
  simp only [opsU3, List.cons_append, List.nil_append, TRef.nullary, TRef.unary, TRef.binary, TRef.ternary, TRef.quaternary, TRef.toBuf, TRef.ofBuf, cast_eq]
  after_results_simp <;> rfl

theorem readU3_z : after opsU3 V (no_index (Proc.devRef .tc main_v136)) = addf (V (Proc.devRef .tc main_v104)) (addf (V (Proc.devRef .tc main_v105)) (subf (V (Proc.devRef .tc main_v123)) (V (Proc.devRef .tc main_v105)))) := by
  simp only [opsU3, List.cons_append, List.nil_append, TRef.nullary, TRef.unary, TRef.binary, TRef.ternary, TRef.quaternary, TRef.toBuf, TRef.ofBuf, cast_eq]
  after_results_simp <;> rfl

theorem readT_x : after opsT V (no_index (Proc.devRef .tc main_v146)) = dec (V (Proc.devRef .tc main_v136)) (V (Proc.devRef .tc main_arg6)) (V (Proc.devRef .tc main_arg7)) (V (Proc.devRef .tc main_arg8)) (V (Proc.devRef .tc main_arg9)) := by
  simp only [opsT, opsTa, opsTb, List.cons_append, List.nil_append, TRef.nullary, TRef.unary, TRef.binary, TRef.ternary, TRef.quaternary, TRef.toBuf, TRef.ofBuf, cast_eq]
  after_results_simp <;> rfl

theorem readT_c : after opsT V (no_index (Proc.devRef .tc main_v158)) = codes4 (column (V (Proc.devRef .tc main_v26))) (column (V (Proc.devRef .tc main_v58))) (column (V (Proc.devRef .tc main_v90))) (column (V (Proc.devRef .tc main_v122))) := by
  simp only [opsT, opsTa, opsTb, List.cons_append, List.nil_append, TRef.nullary, TRef.unary, TRef.binary, TRef.ternary, TRef.quaternary, TRef.toBuf, TRef.ofBuf, cast_eq]
  after_results_simp <;> rfl

theorem readT_b : after opsT V (no_index (Proc.devRef .tc main_v159)) = boxed (V (Proc.devRef .tc main_v132)) := by
  simp only [opsT, opsTa, opsTb, List.cons_append, List.nil_append, TRef.nullary, TRef.unary, TRef.binary, TRef.ternary, TRef.quaternary, TRef.toBuf, TRef.ofBuf, cast_eq]
  after_results_simp <;> rfl

theorem readT_k : after opsT V (no_index (Proc.devRef .tc main_v160)) = boxed (mulf (sc 0x3E800000#32) (V (Proc.devRef .tc main_v133))) := by
  simp only [opsT, opsTa, opsTb, List.cons_append, List.nil_append, TRef.nullary, TRef.unary, TRef.binary, TRef.ternary, TRef.quaternary, TRef.toBuf, TRef.ofBuf, cast_eq]
  after_results_simp <;> rfl

theorem readT_r : after opsT V (no_index (Proc.devRef .tc main_v161)) = boxed (mean256 (subf (dec (V (Proc.devRef .tc main_v136)) (V (Proc.devRef .tc main_arg6)) (V (Proc.devRef .tc main_arg7)) (V (Proc.devRef .tc main_arg8)) (V (Proc.devRef .tc main_arg9))) (V (Proc.devRef .tc main_arg0)))) := by
  simp only [opsT, opsTa, opsTb, List.cons_append, List.nil_append, TRef.nullary, TRef.unary, TRef.binary, TRef.ternary, TRef.quaternary, TRef.toBuf, TRef.ofBuf, cast_eq]
  after_results_simp <;> rfl

theorem readT_t : after opsT V (no_index (Proc.devRef .tc main_v162)) = boxed (addf (addf (V (Proc.devRef .tc main_v132)) (mulf (sc 0x3E800000#32) (V (Proc.devRef .tc main_v133)))) (mean256 (subf (dec (V (Proc.devRef .tc main_v136)) (V (Proc.devRef .tc main_arg6)) (V (Proc.devRef .tc main_arg7)) (V (Proc.devRef .tc main_arg8)) (V (Proc.devRef .tc main_arg9))) (V (Proc.devRef .tc main_arg0))))) := by
  simp only [opsT, opsTa, opsTb, List.cons_append, List.nil_append, TRef.nullary, TRef.unary, TRef.binary, TRef.ternary, TRef.quaternary, TRef.toBuf, TRef.ofBuf, cast_eq]
  after_results_simp <;> rfl

/-- The encoded rows, from the arguments at launch. -/
def encOf (m : (ℓ : Loc nD τ sig) → Buf (Elt F) ℓ) (c : Dev nD) : (⟨S16384x64, .f32⟩ : BufTy).Contents (Elt F) :=
  enc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The reconstruction, from the arguments at launch. -/
def decOf (m : (ℓ : Loc nD τ sig) → Buf (Elt F) ℓ) (c : Dev nD) : (⟨S16384x256, .f32⟩ : BufTy).Contents (Elt F) :=
  dec (quant (encOf m c) (m ((c.tc : Thread nD τ).loc main_arg5))) (m ((c.tc : Thread nD τ).loc main_arg6)) (m ((c.tc : Thread nD τ).loc main_arg7)) (m ((c.tc : Thread nD τ).loc main_arg8)) (m ((c.tc : Thread nD τ).loc main_arg9))

/-- The commitment loss, from the arguments at launch. -/
def commitOf (m : (ℓ : Loc nD τ sig) → Buf (Elt F) ℓ) (c : Dev nD) : (⟨S_, .f32⟩ : BufTy).Contents (Elt F) :=
  mulf (sc 0x3E800000#32) (cbLoss (encOf m c) (m ((c.tc : Thread nD τ).loc main_arg5)))

/-- The reconstruction loss, from the arguments at launch. -/
def recOf (m : (ℓ : Loc nD τ sig) → Buf (Elt F) ℓ) (c : Dev nD) : (⟨S_, .f32⟩ : BufTy).Contents (Elt F) :=
  mean256 (subf (decOf m c) (m ((c.tc : Thread nD τ).loc main_arg0)))

set_option maxRecDepth 16384 in
set_option maxHeartbeats 4000000 in
/-- Every execution of the reference ends with its seven results at these functions of the arguments, which it
    leaves as they were. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v146) = decOf m c
      ∧ r.2.mem ((c.tc : Thread nD τ).loc main_v136) = quant (encOf m c) (m ((c.tc : Thread nD τ).loc main_arg5))
      ∧ r.2.mem ((c.tc : Thread nD τ).loc main_v158) = codes4 (F := F) (column (F := F) (code (encOf m c) (cb0 (m ((c.tc : Thread nD τ).loc main_arg5)))))
          (column (F := F) (code (res1 (encOf m c) (m ((c.tc : Thread nD τ).loc main_arg5))) (cb1 (m ((c.tc : Thread nD τ).loc main_arg5))))) (column (F := F) (code (res2 (encOf m c) (m ((c.tc : Thread nD τ).loc main_arg5))) (cb2 (m ((c.tc : Thread nD τ).loc main_arg5)))))
          (column (F := F) (code (res3 (encOf m c) (m ((c.tc : Thread nD τ).loc main_arg5))) (cb3 (m ((c.tc : Thread nD τ).loc main_arg5)))))
      ∧ r.2.mem ((c.tc : Thread nD τ).loc main_v159) = boxed (cbLoss (encOf m c) (m ((c.tc : Thread nD τ).loc main_arg5)))
      ∧ r.2.mem ((c.tc : Thread nD τ).loc main_v160) = boxed (commitOf m c)
      ∧ r.2.mem ((c.tc : Thread nD τ).loc main_v161) = boxed (recOf m c)
      ∧ r.2.mem ((c.tc : Thread nD τ).loc main_v162) = boxed (addf (addf (cbLoss (encOf m c) (m ((c.tc : Thread nD τ).loc main_arg5))) (commitOf m c)) (recOf m c))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) := by
  refine (θ_run defs _ _).mono (fun r h c => ?_) (run m ρ)
  refine ⟨?_, ?_, ?_, ?_, ?_, ?_, ?_, ?_, ?_, ?_, ?_, ?_, ?_, ?_, ?_, ?_, ?_⟩
  all_goals
    rw [h c]
    simp (disch := decide) only [ops, after_append, readE_z, readE_0, readD0_cb, readD0_d, readM0_i, readM0_q, readU0_l, readU0_k, readU0_z, readU0_n, readD1_cb, readD1_d, readM1_i, readM1_q, readU1_l, readU1_k, readU1_z, readU1_n, readD2_cb, readD2_d, readM2_i, readM2_q, readU2_l, readU2_k, readU2_z, readU2_n, readD3_cb, readD3_d, readM3_i, readM3_q, readU3_l, readU3_k, readU3_z, readT_x, readT_c, readT_b, readT_k, readT_r, readT_t,
      keepE, keepD0, keepM0, keepU0, keepD1, keepM1, keepU1, keepD2, keepM2, keepU2, keepD3, keepM3, keepU3, keepT]
    try rfl

end Cert.ReferenceIdeal.Steps

end
-- ==== Proof.RefRows.lean ====
/- The reference's stages read a row at a time over the extended reals. -/
module

public import proofs.«01_k».proof.Proof.RefRun
public import proofs.«01_k».proof.Proof.Rows
public import Idealize.ShloMosaic.Lib.Routing.Ops

@[expose] public section

noncomputable section

namespace Cert.ReferenceIdeal.Steps

open Cert.ReferenceIdeal Cert.ReferenceIdeal.Gen Idealize.ShloMosaic

set_option maxRecDepth 16384

/-- A row of an array of rows of 64. -/
def row (r : (⟨S16384x64, .f32⟩ : BufTy).Contents (Elt Ideal)) (i : Fin 16384) : Fin 64 → EReal := fun j => r (ix2 i j)

/-- A codebook as a table. -/
def table (cb : (⟨S1024x64, .f32⟩ : BufTy).Contents (Elt Ideal)) : Fin 1024 → Fin 64 → EReal := fun l j => cb (ix2 l j)

theorem enc_apply (x : (⟨S16384x256, .f32⟩ : BufTy).Contents (Elt Ideal)) (w1 : (⟨S256x256, .f32⟩ : BufTy).Contents (Elt Ideal))
    (b1 : (⟨S256, .f32⟩ : BufTy).Contents (Elt Ideal)) (w2 : (⟨S256x64, .f32⟩ : BufTy).Contents (Elt Ideal))
    (b2 : (⟨S64, .f32⟩ : BufTy).Contents (Elt Ideal)) (i : Fin 16384) (j : Fin 64) :
    enc x w1 b1 w2 b2 (ix2 i j) = Rows.layers (fun k => x (ix2 i k)) (fun k l => w1 (ix2 k l)) (fun l => b1 (ix1 l))
      (fun k l => w2 (ix2 k l)) (fun l => b2 (ix1 l)) j := by
  pointwise [enc, pos, wide]
  rfl

theorem dec_apply (z : (⟨S16384x64, .f32⟩ : BufTy).Contents (Elt Ideal)) (w1 : (⟨S64x256, .f32⟩ : BufTy).Contents (Elt Ideal))
    (b1 : (⟨S256, .f32⟩ : BufTy).Contents (Elt Ideal)) (w2 : (⟨S256x256, .f32⟩ : BufTy).Contents (Elt Ideal))
    (b2 : (⟨S256, .f32⟩ : BufTy).Contents (Elt Ideal)) (i : Fin 16384) (j : Fin 256) :
    dec z w1 b1 w2 b2 (ix2 i j) = Rows.layers (row z i) (fun k l => w1 (ix2 k l)) (fun l => b1 (ix1 l))
      (fun k l => w2 (ix2 k l)) (fun l => b2 (ix1 l)) j := by
  pointwise [dec, pos, wide]
  rfl

theorem dist_apply (r : (⟨S16384x64, .f32⟩ : BufTy).Contents (Elt Ideal)) (cb : (⟨S1024x64, .f32⟩ : BufTy).Contents (Elt Ideal))
    (i : Fin 16384) (l : Fin 1024) : dist r cb (ix2 i l) = Rows.dist (row r i) (table cb) l := by
  pointwise [dist]
  rfl

theorem top_pattern : Ideal.ofBits .f32 0x7F800000#32 = (⊤ : EReal) := by
  simp [Ideal.ofBits, Ideal.ieee]

/-- The body of the search returns one of its two pairs, and one before both. -/
theorem reducer_before (a b : EReal × BitVec 32) :
    (reducer_argmin_f32_i32 (F := Ideal) a b = a ∨ reducer_argmin_f32_i32 (F := Ideal) a b = b)
    ∧ Rows.Before (reducer_argmin_f32_i32 (F := Ideal) a b) a ∧ Rows.Before (reducer_argmin_f32_i32 (F := Ideal) a b) b := by
  obtain ⟨x, i⟩ := a
  obtain ⟨y, k⟩ := b
  have hne : FloatOps.cmpf (F := Ideal) (φ := .f32) .une x x = 0#1 := by simp [Ideal.cmpf_def, Ideal.cmp]
  unfold reducer_argmin_f32_i32
  simp only [hne]
  rcases lt_trichotomy x y with h | h | h
  · have h1 : FloatOps.cmpf (F := Ideal) (φ := .f32) .olt x y = 1#1 := by simp [Ideal.cmpf_def, Ideal.cmp, h]
    have h2 : FloatOps.cmpf (F := Ideal) (φ := .f32) .oeq x y = 0#1 := by simp [Ideal.cmpf_def, Ideal.cmp, h.ne]
    have e1 : IntOp.ori 1#1 0#1 = 1#1 := rfl
    have e2 : ∀ w : BitVec 1, IntOp.ori 1#1 (IntOp.andi 0#1 w) = 1#1 := by decide
    rw [h1, h2, e1, e2]
    exact ⟨Or.inl rfl, Rows.before_refl _, Or.inl h⟩
  · subst h
    have h1 : FloatOps.cmpf (F := Ideal) (φ := .f32) .olt x x = 0#1 := by simp [Ideal.cmpf_def, Ideal.cmp]
    have h2 : FloatOps.cmpf (F := Ideal) (φ := .f32) .oeq x x = 1#1 := by simp [Ideal.cmpf_def, Ideal.cmp]
    rw [h1, h2]
    by_cases hs : i.slt k = true
    · have h3 : IntOp.cmpi .slt i k = 1#1 := by simp [IntOp.cmpi, hs]
      rw [h3]
      rw [BitVec.slt_iff_toInt_lt] at hs
      exact ⟨Or.inl rfl, Rows.before_refl _, Or.inr ⟨rfl, le_of_lt hs⟩⟩
    · have h3 : IntOp.cmpi .slt i k = 0#1 := by simp [IntOp.cmpi, hs]
      rw [h3]
      rw [BitVec.slt_iff_toInt_lt] at hs
      exact ⟨Or.inr rfl, Or.inr ⟨rfl, not_lt.mp hs⟩, Rows.before_refl _⟩
  · have h1 : FloatOps.cmpf (F := Ideal) (φ := .f32) .olt x y = 0#1 := by
      rw [Ideal.cmpf_def, Ideal.cmp]; simp [not_lt.mpr (le_of_lt h)]
    have h2 : FloatOps.cmpf (F := Ideal) (φ := .f32) .oeq x y = 0#1 := by simp [Ideal.cmpf_def, Ideal.cmp, h.ne']
    have e1 : IntOp.ori 0#1 0#1 = 0#1 := rfl
    have e2 : ∀ w : BitVec 1, IntOp.ori 0#1 (IntOp.andi 0#1 w) = 0#1 := by decide
    rw [h1, h2, e1, e2]
    exact ⟨Or.inr rfl, Or.inl h, Rows.before_refl _⟩

section
variable {n : ℕ} (h : (⟨2, ![n, 1024]⟩ : Shape).ReducesTo [1] ⟨1, ![n]⟩) (d : FVec Ideal ⟨2, ![n, 1024]⟩ .f32) (i : Fin n)

/-- The pairs the search folds over at a row: every lane's distance with the lane's number. -/
theorem mem_fiber (q : EReal × BitVec 32) : q ∈ Host.argReduceFiber d (iotaInDim ⟨2, ![n, 1024]⟩ 32 1) h (ix1 i)
      ↔ ∃ l : Fin 1024, q = (d (ix2 i l), BitVec.ofNat 32 l.val) := by
  unfold Host.argReduceFiber
  simp only [List.mem_map, List.mem_filter, List.mem_finRange, true_and, decide_eq_true_eq]
  constructor
  · rintro ⟨k, hk, rfl⟩
    obtain ⟨l, hl⟩ := (Shape.ReducesTo.fiber_r2_a1 h (ix1 i) _).mp hk
    refine ⟨l, ?_⟩
    rw [← hl]
    rfl
  · rintro ⟨l, rfl⟩
    refine ⟨(⟨2, ![n, 1024]⟩ : Shape).rowMajor (ix2 i l), ?_, ?_⟩
    · rw [Equiv.symm_apply_apply]
      exact (Shape.ReducesTo.fiber_r2_a1 h (ix1 i) _).mpr ⟨l, rfl⟩
    · rw [Equiv.symm_apply_apply]
      rfl

/-- The search's index at a row is the first nearest lane. -/
theorem search_apply {u : Shape} (v : u.Idx → EReal) (w : u.Idx → BitVec 32) (hu : 0 < u.numel)
    (hv : v (Shape.Idx.first hu) = ⊤) (hw : w (Shape.Idx.first hu) = 0#32) :
    (Host.argReduce (F := Ideal) (φ := .f32) reducer_argmin_f32_i32 d (iotaInDim ⟨2, ![n, 1024]⟩ 32 1) v w h hu (ix1 i)).2
      = BitVec.ofNat 32 (Rows.pick fun l => d (ix2 i l)).val := by
  rw [Ideal.argReduce_eq_reduce2, Host.reduce2_eq_foldl_fiber, hv, hw]
  exact Rows.foldl_pick _ reducer_before (fun l => d (ix2 i l)) _ (mem_fiber h d i)
end

theorem nearest_eq {F : FTy → Type} [FloatOps F] (d : (⟨S16384x1024, .f32⟩ : BufTy).Contents (Elt F)) :
    nearest (F := F) d = fun j => (Host.argReduce reducer_argmin_f32_i32 d (iotaInDim S16384x1024 32 1) (sc 0x7F800000#32)
      (constantI S_ 32 0#32) reducesTo_S16384x1024_S16384_d1 h_S_ j).2 := by unfold nearest; exact rfl

theorem search_rows (d : FVec Ideal S16384x1024 .f32) (v : S_.Idx → EReal) (w : S_.Idx → BitVec 32) (hu : 0 < S_.numel)
    (hv : v (Shape.Idx.first hu) = ⊤) (hw : w (Shape.Idx.first hu) = 0#32) :
    (fun j => (Host.argReduce (F := Ideal) (φ := .f32) reducer_argmin_f32_i32 d (iotaInDim S16384x1024 32 1) v w
        reducesTo_S16384x1024_S16384_d1 hu j).2)
      = fun j : S16384.Idx => BitVec.ofNat 32 (Rows.pick fun l => d (ix2 (j 0) l)).val :=
  funext fun j => by
    obtain ⟨i, rfl⟩ : ∃ i : Fin 16384, j = ix1 i := ⟨j 0, funext fun a => match a with | ⟨0, _⟩ => rfl⟩
    exact search_apply reducesTo_S16384x1024_S16384_d1 d i v w hu hv hw

theorem nearest_rows (d : (⟨S16384x1024, .f32⟩ : BufTy).Contents (Elt Ideal)) :
    nearest (F := Ideal) d = fun j : S16384.Idx => BitVec.ofNat 32 (Rows.pick fun l => d (ix2 (j 0) l)).val :=
  (nearest_eq d).trans (search_rows d (sc (F := Ideal) 0x7F800000#32) (constantI S_ 32 0#32) h_S_ top_pattern rfl)

theorem nearest_apply (d : (⟨S16384x1024, .f32⟩ : BufTy).Contents (Elt Ideal)) (i : Fin 16384) :
    nearest (F := Ideal) d (ix1 i) = BitVec.ofNat 32 (Rows.pick fun l => d (ix2 i l)).val :=
  congrFun (nearest_rows d) (ix1 i)

theorem code_apply (r : (⟨S16384x64, .f32⟩ : BufTy).Contents (Elt Ideal)) (cb : (⟨S1024x64, .f32⟩ : BufTy).Contents (Elt Ideal))
    (i : Fin 16384) : code (F := Ideal) r cb (ix1 i) = BitVec.ofNat 32 (Rows.code (row r i) (table cb)).val := by
  have e : (fun l => dist r cb (ix2 i l)) = Rows.dist (row r i) (table cb) := funext fun l => dist_apply r cb i l
  unfold code Rows.code
  rw [nearest_apply, e]

theorem wrapped_apply (d : (⟨S16384, .i32⟩ : BufTy).Contents (Elt Ideal)) (i : Fin 16384) (l : Fin 1024)
    (h : d (ix1 i) = BitVec.ofNat 32 l.val) : wrapped (F := Ideal) d (ix2 i 0) = BitVec.ofNat 32 l.val := by
  pointwise [wrapped]
  rw [h]
  have : IntOp.cmpi .slt (BitVec.ofNat 32 l.val) 0#32 = 0#1 := by
    have hs : ¬(BitVec.ofNat 32 l.val).slt 0#32 = true := by
      rw [BitVec.slt_iff_toInt_lt, Rows.toInt_lane]
      have : (0#32 : BitVec 32).toInt = 0 := by decide
      omega
    simp [IntOp.cmpi, hs]
  rw [this]
  rfl

theorem inside_apply (w : (⟨S16384x1, .i32⟩ : BufTy).Contents (Elt Ideal)) (i : Fin 16384) (l : Fin 1024)
    (h : w (ix2 i 0) = BitVec.ofNat 32 l.val) : inside (F := Ideal) w (ix1 i) = 1#1 := by
  pointwise [inside]
  have hl := l.isLt
  have z : (0#32 : BitVec 32).toInt = 0 := by decide
  have z' : (1023#32 : BitVec 32).toInt = 1023 := by decide
  have h1 : IntOp.cmpi .sge (BitVec.ofNat 32 l.val) 0#32 = 1#1 := by
    have hs : (0#32 : BitVec 32).sle (BitVec.ofNat 32 l.val) = true := by
      rw [BitVec.sle_iff_toInt_le, Rows.toInt_lane]; omega
    simp [IntOp.cmpi, hs]
  have h2 : IntOp.cmpi .sle (BitVec.ofNat 32 l.val) 1023#32 = 1#1 := by
    have hs : (BitVec.ofNat 32 l.val).sle (1023#32 : BitVec 32) = true := by
      rw [BitVec.sle_iff_toInt_le, Rows.toInt_lane]; omega
    simp [IntOp.cmpi, hs]
  have hu : (Finset.univ : Finset (Fin 1)) = {0} := rfl
  rw [hu, Finset.fold_singleton, h, h1, h2]
  rfl

theorem rowsAt_apply (cb : (⟨S1024x64, .f32⟩ : BufTy).Contents (Elt Ideal)) (d : (⟨S16384, .i32⟩ : BufTy).Contents (Elt Ideal))
    (i : Fin 16384) (l : Fin 1024) (j : Fin 64) (h : d (ix1 i) = BitVec.ofNat 32 l.val) :
    rowsAt (F := Ideal) cb d (ix2 i j) = table cb l j := by
  have hw := wrapped_apply d i l h
  have hi := inside_apply _ i l hw
  have hg : Host.gather gather_S1024x64_S16384x1_S16384x64_1_0_n_n_0_1_164 cb (wrapped (F := Ideal) d) (ix2 i j) = cb (ix2 l j) :=
    Routing.gather_row gather_S1024x64_S16384x1_S16384x64_1_0_n_n_0_1_164 rfl rfl rfl rfl rfl cb _ i j l hw (by decide)
  pointwise [rowsAt]
  rw [hi, hg]
  rfl

section
variable (r : (⟨S16384x64, .f32⟩ : BufTy).Contents (Elt Ideal)) (cb : (⟨S1024x64, .f32⟩ : BufTy).Contents (Elt Ideal)) (i : Fin 16384)

theorem row_miss : row (miss (F := Ideal) r cb) i = Rows.miss (row r i) (table cb) := by
  funext j
  show rowsAt (F := Ideal) cb (code (F := Ideal) r cb) (ix2 i j) - r (ix2 i j) = _
  rw [rowsAt_apply cb _ i _ j (code_apply r cb i)]
  rfl

theorem row_through : row (through (F := Ideal) r cb) i = Rows.through (row r i) (table cb) := by
  funext j
  have e : row (miss (F := Ideal) r cb) i j = Rows.miss (row r i) (table cb) j := congrFun (row_miss r cb i) j
  show row r i j + row (miss (F := Ideal) r cb) i j = _
  rw [e]; rfl

theorem row_next : row (next (F := Ideal) r cb) i = Rows.next (row r i) (table cb) := by
  funext j
  have e : row (through (F := Ideal) r cb) i j = Rows.through (row r i) (table cb) j := congrFun (row_through r cb i) j
  show row r i j - row (through (F := Ideal) r cb) i j = _
  rw [e]; rfl
end

theorem mean64_apply (d : (⟨S16384x64, .f32⟩ : BufTy).Contents (Elt Ideal)) :
    mean64 d ix0 = Ideal.div (∑ i, ∑ j, row d i j * row d i j) (Ideal.ofBits .f32 0x49800000#32) := by
  pointwise [mean64]
  rfl

theorem mean256_apply (d : (⟨S16384x256, .f32⟩ : BufTy).Contents (Elt Ideal)) :
    mean256 d ix0 = Ideal.div (∑ i : Fin 16384, ∑ j : Fin 256, (d (ix2 i j) * d (ix2 i j) : EReal)) (Ideal.ofBits .f32 0x4A800000#32) := by
  pointwise [mean256]

/-! ## The four levels -/

/-- The four codebooks as tables. -/
def tables (c : (⟨S4x1024x64, .f32⟩ : BufTy).Contents (Elt Ideal)) : Fin 4 → Fin 1024 → Fin 64 → EReal :=
  fun l e j => c (ix3 l e j)

section
variable (z : (⟨S16384x64, .f32⟩ : BufTy).Contents (Elt Ideal)) (c : (⟨S4x1024x64, .f32⟩ : BufTy).Contents (Elt Ideal)) (i : Fin 16384)

theorem table0 : table (cb0 c) = tables c 0 := by funext l j; show cb0 c (ix2 l j) = _; pointwise [cb0]; rfl
theorem table1 : table (cb1 c) = tables c 1 := by funext l j; show cb1 c (ix2 l j) = _; pointwise [cb1]; rfl
theorem table2 : table (cb2 c) = tables c 2 := by funext l j; show cb2 c (ix2 l j) = _; pointwise [cb2]; rfl
theorem table3 : table (cb3 c) = tables c 3 := by funext l j; show cb3 c (ix2 l j) = _; pointwise [cb3]; rfl

theorem row_res1 : row (res1 (F := Ideal) z c) i = Rows.res (row z i) (tables c) 1 := by
  unfold res1
  rw [row_next, table0]; rfl
theorem row_res2 : row (res2 (F := Ideal) z c) i = Rows.res (row z i) (tables c) 2 := by
  unfold res2
  rw [row_next, row_res1, table1]; rfl
theorem row_res3 : row (res3 (F := Ideal) z c) i = Rows.res (row z i) (tables c) 3 := by
  unfold res3
  rw [row_next, row_res2, table2]; rfl

theorem row_quant : row (quant (F := Ideal) z c) i = Rows.quant (row z i) (tables c) := by
  funext j
  have e0 := congrFun (row_through z (cb0 c) i) j
  have e1 := congrFun (row_through (res1 (F := Ideal) z c) (cb1 c) i) j
  have e2 := congrFun (row_through (res2 (F := Ideal) z c) (cb2 c) i) j
  have e3 := congrFun (row_through (res3 (F := Ideal) z c) (cb3 c) i) j
  rw [table0] at e0
  rw [table1, row_res1] at e1
  rw [table2, row_res2] at e2
  rw [table3, row_res3] at e3
  show Ideal.ofBits .f32 0x00000000#32 + row (through (F := Ideal) z (cb0 c)) i j
    + row (through (F := Ideal) (res1 (F := Ideal) z c) (cb1 c)) i j + row (through (F := Ideal) (res2 (F := Ideal) z c) (cb2 c)) i j
    + row (through (F := Ideal) (res3 (F := Ideal) z c) (cb3 c)) i j = _
  rw [e0, e1, e2, e3, Ideal.ofBits_zero_f32]
  rfl

/-- The codes of the four levels side by side. -/
def codes (z : (⟨S16384x64, .f32⟩ : BufTy).Contents (Elt Ideal)) (c : (⟨S4x1024x64, .f32⟩ : BufTy).Contents (Elt Ideal)) :
    (⟨S16384x4, .i32⟩ : BufTy).Contents (Elt Ideal) :=
  codes4 (F := Ideal) (column (F := Ideal) (code (F := Ideal) z (cb0 c))) (column (F := Ideal) (code (F := Ideal) (res1 (F := Ideal) z c) (cb1 c)))
    (column (F := Ideal) (code (F := Ideal) (res2 (F := Ideal) z c) (cb2 c))) (column (F := Ideal) (code (F := Ideal) (res3 (F := Ideal) z c) (cb3 c)))

omit z c i in
theorem codes4_apply (a0 a1 a2 a3 : (⟨S16384, .i32⟩ : BufTy).Contents (Elt Ideal)) (i : Fin 16384) :
    codes4 (F := Ideal) (column (F := Ideal) a0) (column (F := Ideal) a1) (column (F := Ideal) a2) (column (F := Ideal) a3) (ix2 i 0) = a0 (ix1 i)
    ∧ codes4 (F := Ideal) (column (F := Ideal) a0) (column (F := Ideal) a1) (column (F := Ideal) a2) (column (F := Ideal) a3) (ix2 i 1) = a1 (ix1 i)
    ∧ codes4 (F := Ideal) (column (F := Ideal) a0) (column (F := Ideal) a1) (column (F := Ideal) a2) (column (F := Ideal) a3) (ix2 i 2) = a2 (ix1 i)
    ∧ codes4 (F := Ideal) (column (F := Ideal) a0) (column (F := Ideal) a1) (column (F := Ideal) a2) (column (F := Ideal) a3) (ix2 i 3) = a3 (ix1 i) := by
  refine ⟨?_, ?_, ?_, ?_⟩ <;> pointwise [codes4, column]

theorem codes_apply (l : Fin 4) : codes z c (ix2 i l) = Rows.codes (row z i) (tables c) l := by
  have e0 := code_apply z (cb0 c) i
  have e1 := code_apply (res1 (F := Ideal) z c) (cb1 c) i
  have e2 := code_apply (res2 (F := Ideal) z c) (cb2 c) i
  have e3 := code_apply (res3 (F := Ideal) z c) (cb3 c) i
  rw [table0] at e0
  rw [table1, row_res1] at e1
  rw [table2, row_res2] at e2
  rw [table3, row_res3] at e3
  unfold codes
  obtain ⟨h0, h1, h2, h3⟩ := codes4_apply (code (F := Ideal) z (cb0 c)) (code (F := Ideal) (res1 (F := Ideal) z c) (cb1 c))
    (code (F := Ideal) (res2 (F := Ideal) z c) (cb2 c)) (code (F := Ideal) (res3 (F := Ideal) z c) (cb3 c)) i
  fin_cases l
  · exact h0.trans e0
  · exact h1.trans e1
  · exact h2.trans e2
  · exact h3.trans e3

theorem mean64_row (d : (⟨S16384x64, .f32⟩ : BufTy).Contents (Elt Ideal)) (g : Fin 16384 → Fin 64 → EReal) (e : ∀ i, row d i = g i) :
    mean64 d ix0 = Ideal.div (∑ i, ∑ j, g i j * g i j) (Ideal.ofBits .f32 0x49800000#32) := by
  rw [mean64_apply]; simp only [e]

theorem cbLoss_apply : cbLoss z c ix0
    = Ideal.div (∑ i, Rows.gap (row z i) (tables c) 0) (Ideal.ofBits .f32 0x49800000#32)
    + Ideal.div (∑ i, Rows.gap (row z i) (tables c) 1) (Ideal.ofBits .f32 0x49800000#32)
    + Ideal.div (∑ i, Rows.gap (row z i) (tables c) 2) (Ideal.ofBits .f32 0x49800000#32)
    + Ideal.div (∑ i, Rows.gap (row z i) (tables c) 3) (Ideal.ofBits .f32 0x49800000#32) := by
  show Ideal.ofBits .f32 0x00000000#32 + mean64 (miss (F := Ideal) z (cb0 c)) ix0
    + mean64 (miss (F := Ideal) (res1 (F := Ideal) z c) (cb1 c)) ix0 + mean64 (miss (F := Ideal) (res2 (F := Ideal) z c) (cb2 c)) ix0
    + mean64 (miss (F := Ideal) (res3 (F := Ideal) z c) (cb3 c)) ix0 = _
  rw [Ideal.ofBits_zero_f32, zero_add, mean64_row _ _ fun i => row_miss z (cb0 c) i,
    mean64_row _ _ fun i => row_miss (res1 (F := Ideal) z c) (cb1 c) i,
    mean64_row _ _ fun i => row_miss (res2 (F := Ideal) z c) (cb2 c) i,
    mean64_row _ _ fun i => row_miss (res3 (F := Ideal) z c) (cb3 c) i]
  simp only [table0, table1, table2, table3, row_res1, row_res2, row_res3]
  rfl
end

end Cert.ReferenceIdeal.Steps

end
-- ==== Proof.RefWhole.lean ====
/- The reference's seven results as the whole computation's, at every index. -/
module

public import proofs.«01_k».proof.Proof.RefRows
public import proofs.«01_k».proof.Proof.Whole

@[expose] public section

noncomputable section

namespace Cert.ReferenceIdeal.Steps

open Cert.ReferenceIdeal Cert.ReferenceIdeal.Gen Idealize.ShloMosaic

set_option maxRecDepth 16384

variable (m : (ℓ : Loc nD τ sig) → Buf (Elt Ideal) ℓ) (c : Dev nD)

/-- The reference's arguments. -/
def inputs : Rows.Inputs where
  x i k := m ((c.tc : Thread nD τ).loc main_arg0) (ix2 i k)
  w1 k l := m ((c.tc : Thread nD τ).loc main_arg1) (ix2 k l)
  b1 l := m ((c.tc : Thread nD τ).loc main_arg2) (ix1 l)
  w2 k l := m ((c.tc : Thread nD τ).loc main_arg3) (ix2 k l)
  b2 l := m ((c.tc : Thread nD τ).loc main_arg4) (ix1 l)
  cb n l k := m ((c.tc : Thread nD τ).loc main_arg5) (ix3 n l k)
  v1 k l := m ((c.tc : Thread nD τ).loc main_arg6) (ix2 k l)
  d1 l := m ((c.tc : Thread nD τ).loc main_arg7) (ix1 l)
  v2 k l := m ((c.tc : Thread nD τ).loc main_arg8) (ix2 k l)
  d2 l := m ((c.tc : Thread nD τ).loc main_arg9) (ix1 l)

theorem row_z (i : Fin 16384) : row (encOf (F := Ideal) m c) i = (inputs m c).z i := by
  funext j
  show encOf (F := Ideal) m c (ix2 i j) = _
  unfold encOf
  rw [enc_apply]
  rfl

theorem tables_cb : tables (m ((c.tc : Thread nD τ).loc main_arg5)) = (inputs m c).cb := rfl

theorem row_q (i : Fin 16384) :
    row (quant (F := Ideal) (encOf (F := Ideal) m c) (m ((c.tc : Thread nD τ).loc main_arg5))) i = (inputs m c).q i := by
  rw [row_quant, row_z, tables_cb]
  rfl

theorem dec_row (i : Fin 16384) (j : Fin 256) : decOf (F := Ideal) m c (ix2 i j) = (inputs m c).out i j := by
  unfold decOf
  rw [dec_apply, row_q]
  rfl

theorem codes_row (i : Fin 16384) (l : Fin 4) :
    codes (encOf (F := Ideal) m c) (m ((c.tc : Thread nD τ).loc main_arg5)) (ix2 i l)
      = Rows.codes ((inputs m c).z i) (inputs m c).cb l := by
  rw [codes_apply, row_z, tables_cb]

theorem cbl_apply : cbLoss (F := Ideal) (encOf (F := Ideal) m c) (m ((c.tc : Thread nD τ).loc main_arg5)) ix0 = (inputs m c).cbl := by
  rw [cbLoss_apply, ← Rows.cbl_eq]
  simp only [row_z, tables_cb]
  rfl

theorem comm_apply : commitOf (F := Ideal) m c ix0 = (inputs m c).comm := by
  show Ideal.ofBits .f32 0x3E800000#32
    * cbLoss (F := Ideal) (encOf (F := Ideal) m c) (m ((c.tc : Thread nD τ).loc main_arg5)) ix0 = _
  rw [cbl_apply]
  rfl

theorem recl_apply : recOf (F := Ideal) m c ix0 = (inputs m c).recl := by
  unfold recOf
  rw [mean256_apply, Rows.div22]
  unfold Rows.Inputs.recl
  refine congrArg (fun s : EReal => s * Ideal.ofBits .f32 0x34800000#32) ?_
  refine Finset.sum_congr rfl fun i _ => Finset.sum_congr rfl fun j _ => ?_
  have e : subf (F := Ideal) (φ := .f32) (decOf (F := Ideal) m c) (m ((c.tc : Thread nD τ).loc main_arg0)) (ix2 i j)
      = (inputs m c).out i j - (inputs m c).x i j := by
    show decOf (F := Ideal) m c (ix2 i j) - m ((c.tc : Thread nD τ).loc main_arg0) (ix2 i j) = _
    rw [dec_row]
    rfl
  rw [e]

theorem boxed_apply (s : (⟨S_, .f32⟩ : BufTy).Contents (Elt Ideal)) : boxed (F := Ideal) s (ix2 0 0) = s ix0 := by
  pointwise [boxed]

theorem total_apply :
    addf (addf (cbLoss (F := Ideal) (encOf (F := Ideal) m c) (m ((c.tc : Thread nD τ).loc main_arg5))) (commitOf m c)) (recOf m c) ix0
      = (inputs m c).cbl + (inputs m c).comm + (inputs m c).recl := by
  show cbLoss (F := Ideal) (encOf (F := Ideal) m c) (m ((c.tc : Thread nD τ).loc main_arg5)) ix0 + commitOf (F := Ideal) m c ix0
    + recOf (F := Ideal) m c ix0 = _
  rw [cbl_apply, comm_apply, recl_apply]

end Cert.ReferenceIdeal.Steps

end
-- ==== Proof.Pair.lean ====
/- From memories that agree on the arguments, the kernel and the reference end with equal results. -/
module

public import proofs.«01_k».proof.Proof.KernelWhole
public import proofs.«01_k».proof.Proof.RefWhole

@[expose] public section

noncomputable section

namespace Cert.Pair

open Idealize.ShloMosaic Cert.KernelIdeal.Value Cert.ReferenceIdeal.Steps

/-- An array of rows is determined by its entries. -/
theorem ext2 {α : Type} {n k : ℕ} (f g : (⟨2, ![n, k]⟩ : Shape).Idx → α) (h : ∀ i j, f (ix2 i j) = g (ix2 i j)) : f = g :=
  funext fun i => by rw [eq_ix2 i]; exact h _ _

/-- An array of one entry is determined by it. -/
theorem ext1 {α : Type} (f g : (⟨2, ![1, 1]⟩ : Shape).Idx → α) (h : f (ix2 0 0) = g (ix2 0 0)) : f = g :=
  ext2 f g fun i j => by rw [Subsingleton.elim i 0, Subsingleton.elim j 0]; exact h

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

section
variable (h : Cert.ReferenceIdeal.Steps.inputs m' c = Cert.KernelIdeal.Block.inputs m c)
include h

theorem recon_eq : decOf (F := Ideal) m' c = G11 m c :=
  ext2 (n := 16384) (k := 256) _ _ fun i j => by
    rw [dec_row, h]; exact (Cert.KernelIdeal.Block.G11_apply m c i j).symm

theorem quant_eq : quant (F := Ideal) (encOf (F := Ideal) m' c) (m' ((c.tc : Thread Cert.ReferenceIdeal.nD Cert.ReferenceIdeal.τ).loc Cert.ReferenceIdeal.main_arg5)) = G12 m c :=
  ext2 (n := 16384) (k := 64) _ _ fun i j => by
    refine (congrFun (row_q m' c i) j).trans ?_
    rw [h]; exact (Cert.KernelIdeal.Block.G12_apply m c i j).symm

theorem codes_eq : codes (encOf (F := Ideal) m' c) (m' ((c.tc : Thread Cert.ReferenceIdeal.nD Cert.ReferenceIdeal.τ).loc Cert.ReferenceIdeal.main_arg5)) = G13 m c :=
  ext2 (n := 16384) (k := 4) _ _ fun i j => by
    rw [codes_row, h]; exact (Cert.KernelIdeal.Block.G13_apply m c i j).symm

theorem cbl_eq : boxed (F := Ideal) (cbLoss (F := Ideal) (encOf (F := Ideal) m' c) (m' ((c.tc : Thread Cert.ReferenceIdeal.nD Cert.ReferenceIdeal.τ).loc Cert.ReferenceIdeal.main_arg5))) = G14 m c :=
  ext1 _ _ (by rw [boxed_apply, cbl_apply, h]; exact (Cert.KernelIdeal.Block.G14_apply m c).symm)

theorem comm_eq : boxed (F := Ideal) (commitOf (F := Ideal) m' c) = G15 m c :=
  ext1 _ _ (by rw [boxed_apply, comm_apply, h]; exact (Cert.KernelIdeal.Block.G15_apply m c).symm)

theorem recl_eq : boxed (F := Ideal) (recOf (F := Ideal) m' c) = G16 m c :=
  ext1 _ _ (by rw [boxed_apply, recl_apply, h]; exact (Cert.KernelIdeal.Block.G16_apply m c).symm)

theorem total_eq : boxed (F := Ideal) (addf (addf (cbLoss (F := Ideal) (encOf (F := Ideal) m' c) (m' ((c.tc : Thread Cert.ReferenceIdeal.nD Cert.ReferenceIdeal.τ).loc Cert.ReferenceIdeal.main_arg5))) (commitOf m' c)) (recOf m' c)) = G17 m c :=
  ext1 _ _ (by rw [boxed_apply, total_apply, h]; exact (Cert.KernelIdeal.Block.G17_apply m c).symm)
end

/-- Equal argument arrays are equal families of numbers. -/
theorem inputs_eq
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Steps.inputs m' c = Cert.KernelIdeal.Block.inputs m c := by
  obtain ⟨h0, h1, h2, h3, h4, h5, h6, h7, h8, h9⟩ := h
  unfold Cert.ReferenceIdeal.Steps.inputs
  rw [h0, h1, h2, h3, h4, h5, h6, h7, h8, h9]
  rfl

end Cert.Pair

end
-- ==== Proof.lean ====
/- The five claims: the three programs run and leave their arguments, the idealization changes nothing, and the kernel and
   the reference end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Pair
public import Idealize.ShloMosaic.Adequacy
public import Idealize.ShloMosaic.Init

@[expose] public section

noncomputable section

namespace Cert.Proof

open Idealize.ShloMosaic Idealize.SL.Sem Cert.Kernel

/-- The reference runs and leaves its arguments as they were. -/
theorem reference_frame : Cert.quiescent_ReferenceIdeal := fun m ρ _ => by
  refine (θ_run _ _ _).mono (fun r hr => ⟨fun c => ?_, sem_eq_zero_of_no_sems (by decide) _⟩) (Cert.ReferenceIdeal.Steps.run_value m ρ)
  obtain ⟨_, _, _, _, _, _, _, args⟩ := hr c
  exact args

/-- The kernel and the reference end with equal results. -/
theorem algebraic : Cert.algebraic_KernelIdeal_ReferenceIdeal := by
  intro m g m' g' _ h
  refine ⟨Cert.KernelIdeal.Value.G11 m, Cert.KernelIdeal.Value.G12 m, Cert.KernelIdeal.Value.G13 m,
    Cert.KernelIdeal.Value.G14 m, Cert.KernelIdeal.Value.G15 m, Cert.KernelIdeal.Value.G16 m, Cert.KernelIdeal.Value.G17 m,
    Cert.KernelIdeal.Value.run m g, ?_⟩
  refine (θ_run _ _ _).mono (fun r hr c => ?_) (Cert.ReferenceIdeal.Steps.run_value m' g')
  obtain ⟨r0, r1, r2, r3, r4, r5, r6, args⟩ := hr c
  have e := Cert.Pair.inputs_eq m m' c (h c)
  exact ⟨r0.trans (Cert.Pair.recon_eq m m' c e), r1.trans (Cert.Pair.quant_eq m m' c e), r2.trans (Cert.Pair.codes_eq m m' c e),
    r3.trans (Cert.Pair.cbl_eq m m' c e), r4.trans (Cert.Pair.comm_eq m m' c e), r5.trans (Cert.Pair.recl_eq m m' c e),
    r6.trans (Cert.Pair.total_eq m m' c e), args⟩

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  reference_frame,
  trivial,
  algebraic⟩

end Cert.Proof

end
